-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def preserves_Reference_ReferenceIdeal : Prop :=
  IdealRules.named_const.Statement Cert.ReferenceIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
-- ==== Pre_finite.lean ====
abbrev S160x1x11008 : Shape := ⟨3, ![160, 1, 11008]⟩
abbrev S11008x4096 : Shape := ⟨2, ![11008, 4096]⟩
abbrev S_ : Shape := ⟨0, ![]⟩

class Facts : Prop where
  bcast_S_S160x1x11008 : S_.BroadcastsInDim S160x1x11008 (![] : Fin 0 → Fin S160x1x11008.rank)
  reducesTo_S160x1x11008_S_d0_1_2 : S160x1x11008.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_

variable [Facts]

def fn {F : FTy → Type} [FloatOps F] (main_arg0 : FVec F S160x1x11008 .bf16) (main_arg1 : FVec F S11008x4096 .bf16) : IVec S_ 1 :=
  let main_v0 : FVec F S160x1x11008 .bf16 := Host.absf main_arg0
  let main_cst : FVec F S_ .bf16 := constant S_ .bf16 0x7F7F#16
  let main_v1 : FVec F S160x1x11008 .bf16 := broadcastInDim S160x1x11008 ![] bcast_S_S160x1x11008 main_cst
  let main_v2 : IVec S160x1x11008 1 := cmpf .ole main_v0 main_v1
  let main_c : IVec S_ 1 := constantI S_ 1 1#1
  let main_v3 : IVec S_ 1 := (fun x v => Host.reduce IntOp.andi x v reducesTo_S160x1x11008_S_d0_1_2 h_S_) main_v2 main_c
  let main_v4 : FVec F S11008x4096 .bf16 := Host.absf main_arg1
  let main_cst_0 : FVec F S_ .bf16 := constant S_ .bf16 0x7F7F#16
  let main_v5 : FVec F S11008x4096 .bf16 := broadcastInDim S11008x4096 ![] bcast_S_S11008x4096 main_cst_0
  let main_v6 : IVec S11008x4096 1 := cmpf .ole main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  main_v8
-- ==== Kernel.lean ====
abbrev S160x1x11008 : Shape := ⟨3, ![160, 1, 11008]⟩
abbrev S11008x4096 : Shape := ⟨2, ![11008, 4096]⟩
abbrev S160x11008 : Shape := ⟨2, ![160, 11008]⟩
abbrev S160x4096 : Shape := ⟨2, ![160, 4096]⟩
abbrev S160x86 : Shape := ⟨2, ![160, 86]⟩
abbrev S32x86 : Shape := ⟨2, ![32, 86]⟩
abbrev S160x256 : Shape := ⟨2, ![160, 256]⟩
abbrev S256x4096 : Shape := ⟨2, ![256, 4096]⟩
abbrev S8x72x128 : Shape := ⟨3, ![8, 72, 128]⟩
abbrev S8x8x128 : Shape := ⟨3, ![8, 8, 128]⟩
abbrev S160x128 : Shape := ⟨2, ![160, 128]⟩
abbrev S32x128 : Shape := ⟨2, ![32, 128]⟩
abbrev S8x128 : Shape := ⟨2, ![8, 128]⟩
abbrev S128x128 : Shape := ⟨2, ![128, 128]⟩
abbrev S16x128 : Shape := ⟨2, ![16, 128]⟩
abbrev S1x8x128 : Shape := ⟨3, ![1, 8, 128]⟩
abbrev S8 : Shape := ⟨1, ![8]⟩
abbrev S8x1 : Shape := ⟨2, ![8, 1]⟩
abbrev S160 : Shape := ⟨1, ![160]⟩
abbrev S160x1 : Shape := ⟨2, ![160, 1]⟩
abbrev S8x16x128 : Shape := ⟨3, ![8, 16, 128]⟩
abbrev S1x1x128 : Shape := ⟨3, ![1, 1, 128]⟩
abbrev S1x128 : Shape := ⟨2, ![1, 128]⟩
abbrev S1x16x128 : Shape := ⟨3, ![1, 16, 128]⟩
abbrev S128x256 : Shape := ⟨2, ![128, 256]⟩
abbrev S256x256 : Shape := ⟨2, ![256, 256]⟩

abbrev nBuf : Space → Nat
  | .hbm => 8
  | .vmem => 17
  | .smem => 0
  | _ => 0

abbrev bufTy : (tb : Table) → Fin (tcTables nBuf tb) → BufTy
  | .hbm, ⟨0, _⟩ => ⟨S160x1x11008, .bf16⟩
  | .hbm, ⟨1, _⟩ => ⟨S11008x4096, .bf16⟩
  | .hbm, ⟨2, _⟩ => ⟨S160x11008, .bf16⟩
  | .hbm, ⟨3, _⟩ => ⟨S160x4096, .bf16⟩
  | .hbm, ⟨4, _⟩ => ⟨S160x11008, .fp8e4m3⟩
  | .hbm, ⟨5, _⟩ => ⟨S160x86, .i8⟩
  | .hbm, ⟨6, _⟩ => ⟨S11008x4096, .fp8e4m3⟩
  | .hbm, ⟨7, _⟩ => ⟨S32x86, .i8⟩
  | .local _ .vmem, ⟨0, _⟩ => ⟨S160x256, .bf16⟩
  | .local _ .vmem, ⟨1, _⟩ => ⟨S160x256, .bf16⟩
  | .local _ .vmem, ⟨2, _⟩ => ⟨S256x4096, .bf16⟩
  | .local _ .vmem, ⟨3, _⟩ => ⟨S256x4096, .bf16⟩
  | .local _ .vmem, ⟨4, _⟩ => ⟨S160x4096, .bf16⟩
  | .local _ .vmem, ⟨5, _⟩ => ⟨S160x256, .fp8e4m3⟩
  | .local _ .vmem, ⟨6, _⟩ => ⟨S160x256, .fp8e4m3⟩
  | .local _ .vmem, ⟨7, _⟩ => ⟨S160x86, .i8⟩
  | .local _ .vmem, ⟨8, _⟩ => ⟨S256x4096, .fp8e4m3⟩
  | .local _ .vmem, ⟨9, _⟩ => ⟨S256x4096, .fp8e4m3⟩
  | .local _ .vmem, ⟨10, _⟩ => ⟨S32x86, .i8⟩
  | .local _ .vmem, ⟨11, _⟩ => ⟨S160x4096, .f32⟩
  | .local _ .vmem, ⟨12, _⟩ => ⟨S8x72x128, .f32⟩
  | .local _ .vmem, ⟨13, _⟩ => ⟨S8x8x128, .i32⟩
  | .local _ .vmem, ⟨14, _⟩ => ⟨S8x8x128, .i32⟩
  | .local _ .vmem, ⟨15, _⟩ => ⟨S160x128, .i32⟩
  | .local _ .vmem, ⟨16, _⟩ => ⟨S32x128, .i32⟩
  | _, _ => ⟨S160x1x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![43], ![false]⟩

def k0_cond2 (i : grid0.Coords) : BitVec 1 :=
  let arg0 : BitVec 32 := BitVec.ofNat 32 (i 0).val
  let c42_i32 : BitVec 32 := 42#32
  let v4720 : BitVec 1 := Scalar.cmpi .eq arg0 c42_i32
  let v4721 : BitVec 32 := Scalar.extui v4720
  let c0_i32_1724 : BitVec 32 := 0#32
  let v4722 : BitVec 1 := Scalar.cmpi .ne v4721 c0_i32_1724
  v4722

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S160x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S160x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S160x86 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x86 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
variable {F : FTy → Type} [FloatOps F] [Named F]
def κ : String → Option EReal := fun
  | "log2e" => some (((Real.log 2)⁻¹ : ℝ) : EReal)
  | _ => none
-- ==== Reference.lean ====
abbrev S160x1x11008 : Shape := ⟨3, ![160, 1, 11008]⟩
abbrev S11008x4096 : Shape := ⟨2, ![11008, 4096]⟩
abbrev S160x11008 : Shape := ⟨2, ![160, 11008]⟩
abbrev S160x4096 : Shape := ⟨2, ![160, 4096]⟩
abbrev S160x86 : Shape := ⟨2, ![160, 86]⟩
abbrev S32x86 : Shape := ⟨2, ![32, 86]⟩
abbrev S160x86x128 : Shape := ⟨3, ![160, 86, 128]⟩
abbrev S160x86x1 : Shape := ⟨3, ![160, 86, 1]⟩
abbrev S86x128x32x128 : Shape := ⟨4, ![86, 128, 32, 128]⟩
abbrev S86x32x128 : Shape := ⟨3, ![86, 32, 128]⟩
abbrev S86x32 : Shape := ⟨2, ![86, 32]⟩
abbrev S86x1x32x1 : Shape := ⟨4, ![86, 1, 32, 1]⟩

abbrev nBuf : Space → Nat
  | .hbm => 8
  | .vmem => 7
  | .smem => 0
  | _ => 0

abbrev bufTy : (tb : Table) → Fin (tcTables nBuf tb) → BufTy
  | .hbm, ⟨0, _⟩ => ⟨S160x1x11008, .bf16⟩
  | .hbm, ⟨1, _⟩ => ⟨S11008x4096, .bf16⟩
  | .hbm, ⟨2, _⟩ => ⟨S160x11008, .bf16⟩
  | .hbm, ⟨3, _⟩ => ⟨S160x4096, .bf16⟩
  | .hbm, ⟨4, _⟩ => ⟨S160x11008, .fp8e4m3⟩
  | .hbm, ⟨5, _⟩ => ⟨S160x86, .i8⟩
  | .hbm, ⟨6, _⟩ => ⟨S11008x4096, .fp8e4m3⟩
  | .hbm, ⟨7, _⟩ => ⟨S32x86, .i8⟩
  | .local _ .vmem, ⟨0, _⟩ => ⟨S160x11008, .bf16⟩
  | .local _ .vmem, ⟨1, _⟩ => ⟨S11008x4096, .bf16⟩
  | .local _ .vmem, ⟨2, _⟩ => ⟨S160x4096, .bf16⟩
  | .local _ .vmem, ⟨3, _⟩ => ⟨S160x11008, .fp8e4m3⟩
  | .local _ .vmem, ⟨4, _⟩ => ⟨S160x86, .i8⟩
  | .local _ .vmem, ⟨5, _⟩ => ⟨S11008x4096, .fp8e4m3⟩
  | .local _ .vmem, ⟨6, _⟩ => ⟨S32x86, .i8⟩
  | _, _ => ⟨S160x1x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S160x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11008x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x11008 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x86 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11008x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x86 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Words.lean ====
module

public import proofs.«01_k».proof.Proof.Gen.KernelIdeal.Frame

@[expose] public section

set_option maxRecDepth 16384

noncomputable section

namespace Cert.KernelIdeal.Words

open Idealize.ShloMosaic Idealize.ShloMosaic.TcCoe Idealize.SL.Sem
open Cert.KernelIdeal Cert.KernelIdeal.Gen

variable {F : FTy → Type} [FloatOps F]

/-! Every block of the weight, every stored row and every tile is named by its number; the offsets are reduced so
that they lie inside the buffer for every number. -/

theorem inb_w (kb nb : ℕ) : ∀ a, (![kb % 2 * 128, nb % 32 * 128] : Fin 2 → ℕ) a + S128x128.size a ≤ S256x4096.size a := by
  intro a; fin_cases a <;> simp [S128x128, S256x4096] <;> omega

theorem inb_slab (n : ℕ) : ∀ a, (![n / 8 % 8, 9 * (n % 8), 0] : Fin 3 → ℕ) a + S1x8x128.size a ≤ S8x72x128.size a := by
  intro a; fin_cases a <;> simp [S1x8x128, S8x72x128] <;> omega

theorem inb_slabLoad (i t : ℕ) : ∀ a, S1x8x128.size a = 0 ∨
    (![i % 8, t % 8, 0] : Fin 3 → ℕ) a + (![1, 9, 1] : Fin 3 → ℕ) a * (S1x8x128.size a - 1) < S8x72x128.size a := by
  intro a; fin_cases a <;> simp [S1x8x128, S8x72x128] <;> omega

theorem inb_grp (i : ℕ) : ∀ a, (![i % 8, 0, 0] : Fin 3 → ℕ) a + S1x8x128.size a ≤ S8x8x128.size a := by
  intro a; fin_cases a <;> simp [S1x8x128, S8x8x128] <;> omega

theorem inb_row (i s : ℕ) : ∀ a, (![i % 8, s % 8, 0] : Fin 3 → ℕ) a + S1x1x128.size a ≤ S8x8x128.size a := by
  intro a; fin_cases a <;> simp [S1x1x128, S8x8x128] <;> omega

theorem inb_ws (g : ℕ) : ∀ a, (![8 * (g % 4), 0] : Fin 2 → ℕ) a + S8x128.size a ≤ S32x128.size a := by
  intro a; fin_cases a <;> simp [S8x128, S32x128] <;> omega

theorem inb_acc (n : ℕ) : ∀ a, (![0, 256 * (n % 16)] : Fin 2 → ℕ) a + S160x256.size a ≤ S160x4096.size a := by
  intro a; fin_cases a <;> simp [S160x256, S160x4096] <;> omega

theorem inb_x (kb : ℕ) : ∀ a, (![0, kb % 2 * 128] : Fin 2 → ℕ) a + S160x128.size a ≤ S160x256.size a := by
  intro a; fin_cases a <;> simp [S160x128, S160x256] <;> omega

abbrev rW (kb nb : ℕ) : Rect S256x4096 := Rect.unit ![kb % 2 * 128, nb % 32 * 128] S128x128.size (inb_w kb nb)
abbrev rSlab (n : ℕ) : Rect S8x72x128 := Rect.unit ![n / 8 % 8, 9 * (n % 8), 0] S1x8x128.size (inb_slab n)
abbrev lSlab (i t : ℕ) : LoadRect S8x72x128 := { off := ![i % 8, t % 8, 0], size := S1x8x128.size, stride := ![1, 9, 1], inb := inb_slabLoad i t }
abbrev rGrp (i : ℕ) : Rect S8x8x128 := Rect.unit ![i % 8, 0, 0] S1x8x128.size (inb_grp i)
abbrev rRow (i s : ℕ) : Rect S8x8x128 := Rect.unit ![i % 8, s % 8, 0] S1x1x128.size (inb_row i s)
abbrev rWs (g : ℕ) : Rect S32x128 := Rect.unit ![8 * (g % 4), 0] S8x128.size (inb_ws g)
abbrev rAcc (n : ℕ) : Rect S160x4096 := Rect.unit ![0, 256 * (n % 16)] S160x256.size (inb_acc n)
abbrev rX (kb : ℕ) : Rect S160x256 := Rect.unit ![0, kb % 2 * 128] S160x128.size (inb_x kb)

/-! ### The words of the body, as vector operations -/

/-- A group's exponents, from the eight strided loads of its lane maxima. -/
def expOf (ld : ℕ → Vec F S1x8x128 .f32) : IVec S8x128 32 :=
  k0_pay171 (k0_pay169 (k0_pay168 (ld 0) (ld 1) (ld 2) (ld 3) (ld 4) (ld 5) (ld 6) (ld 7)))
    (k0_pay170 (k0_pay168 (ld 0) (ld 1) (ld 2) (ld 3) (ld 4) (ld 5) (ld 6) (ld 7))) 2#32

/-- The bf16 pattern of a power of two, in both halves of a word. -/
def pairOf (e : IVec S8x128 32) : IVec S1x8x128 32 :=
  shapeCast S1x8x128 (ori (shli (addi e (broadcast S8x128 127#32)) (broadcast S8x128 7#32))
    (shli (shli (addi e (broadcast S8x128 127#32)) (broadcast S8x128 7#32)) (broadcast S8x128 16#32))) shapeCasts_S8x128_S1x8x128

/-- An exponent entered into its column of the carried exponents of the weight. -/
def wseUpd (st : BitVec 32) (kb : ℕ) (e old : IVec S8x128 32) : IVec S8x128 32 :=
  shapeCast S8x128 (select (cmpi .eq (iota .tc S8x128 32 [1] iota_S8x128_d1_w32)
    (broadcast S8x128 (Scalar.addi (Scalar.muli st 2#32) (BitVec.ofNat 32 kb))))
    (addi e (broadcast S8x128 127#32)) old) shapeCasts_S8x128_S8x128

/-- An exponent entered into its column of the carried exponents of the rows. -/
def xseUpd (st : BitVec 32) (kb : ℕ) (e old : IVec S160x128 32) : IVec S160x128 32 :=
  shapeCast S160x128 (select (cmpi .eq (iota .tc S160x128 32 [1] iota_S160x128_d1_w32)
    (broadcast S160x128 (Scalar.addi (Scalar.muli st 2#32) (BitVec.ofNat 32 kb))))
    (addi e (broadcast S160x128 127#32)) old) shapeCasts_S160x128_S160x128

/-- A row block's exponents. -/
def xexp (v : Vec F S160x128 .bf16) : IVec S160x128 32 :=
  k0_pay277 (k0_pay274 v) (k0_pay275 v) (k0_pay276 v)

/-- A row block quantised. -/
def xq (v : Vec F S160x128 .bf16) : FVec F S160x128 .fp8e4m3 :=
  k0_pay269 (k0_pay261 v) (k0_pay265 (k0_pay262 v) (k0_pay263 v) k0_pay264)
    (k0_pay266 (k0_pay262 v) (k0_pay263 v) k0_pay264) (k0_pay267 (k0_pay262 v) (k0_pay263 v) k0_pay264)

/-- A row block quantised and scaled back. -/
def xdq (v : Vec F S160x128 .bf16) : FVec F S160x128 .bf16 :=
  k0_pay270 (k0_pay261 v) (k0_pay265 (k0_pay262 v) (k0_pay263 v) k0_pay264)
    (k0_pay266 (k0_pay262 v) (k0_pay263 v) k0_pay264) (k0_pay267 (k0_pay262 v) (k0_pay263 v) k0_pay264)

/-- Both row blocks of a window, scaled back, side by side. -/
def xd (v : ℕ → Vec F S160x128 .bf16) : FVec F S160x256 .bf16 :=
  concatenate S160x256 1 [⟨S160x128, xdq (v 0)⟩, ⟨S160x128, xdq (v 1)⟩] concatenates_S160x128_S160x128_S160x256_d1

/-! ### The pieces, by recursion on how many stores have been made

`blk kb nb` is a block of the weight, `v kb` a block of the rows. -/

variable (blk : ℕ → ℕ → Vec F S128x128 .bf16) (v : ℕ → Vec F S160x128 .bf16) (st : BitVec 32)
variable (arg8 : Memref sig .tc .vmem S160x4096 .f32) (harg8 : arg8.IsWhole)
variable (arg9 : Memref sig .tc .vmem S8x72x128 .f32) (arg10 : Memref sig .tc .vmem S8x8x128 .i32)
  (arg11 : Memref sig .tc .vmem S8x8x128 .i32)
variable (arg13 : Memref sig .tc .vmem S32x128 .i32) (harg13 : arg13.IsWhole)
variable (xs0 : Vec F S160x4096 .f32) (xs5 : Vec F S32x128 .i32)

/-- The first `n` stores of lane maxima. -/
def slabList : ℕ → List (View.Piece (Elt F) S8x72x128 .f32)
  | 0 => []
  | n + 1 => ⟨rSlab n, k0_pay8 (blk (n / 32) (n % 32))⟩ :: slabList n

/-- Group `i`'s exponents. -/
def wexp (i : ℕ) : IVec S8x128 32 := expOf fun t => arg9.view.readCov (slabList blk 64) (lSlab i t)

/-- The first `n` stores of the powers that scale down. -/
def invList : ℕ → List (View.Piece (Elt F) S8x8x128 .i32)
  | 0 => []
  | i + 1 => ⟨rGrp i, pairOf (subi (broadcast S8x128 0#32) (wexp blk arg9 i))⟩ :: invList i

/-- The first `n` stores of the powers that scale back. -/
def sclList : ℕ → List (View.Piece (Elt F) S8x8x128 .i32)
  | 0 => []
  | i + 1 => ⟨rGrp i, pairOf (wexp blk arg9 i)⟩ :: sclList i

/-- Block `(kb, nb)`'s row of the powers that scale down. -/
def invRow (kb nb : ℕ) : Vec F S1x1x128 .i32 := arg10.view.readCov (invList blk arg9 8) (rRow (kb * 4 + nb / 8) (nb % 8)).toLoadRect
/-- Block `(kb, nb)`'s row of the powers that scale back. -/
def sclRow (kb nb : ℕ) : Vec F S1x1x128 .i32 := arg11.view.readCov (sclList blk arg9 8) (rRow (kb * 4 + nb / 8) (nb % 8)).toLoadRect

/-- Block `(kb, nb)` quantised, as stored. -/
def wq (kb nb : ℕ) : FVec F S128x128 .fp8e4m3 := k0_pay284 (k0_pay283 (blk kb nb) (invRow blk arg9 arg10 kb nb))
/-- Block `(kb, nb)` quantised and scaled back. -/
def wdq (kb nb : ℕ) : FVec F S128x128 .bf16 :=
  k0_pay285 (k0_pay283 (blk kb nb) (invRow blk arg9 arg10 kb nb)) (sclRow blk arg9 arg11 kb nb)
/-- Two neighbouring blocks scaled back. -/
def wdt (kb nt : ℕ) : FVec F S128x256 .bf16 :=
  k0_pay288 (wdq blk arg9 arg10 arg11 kb (nt * 2)) (wdq blk arg9 arg10 arg11 kb (nt * 2 + 1))

/-- The first `n` stores of the quantised weight. -/
def wqList : ℕ → List (View.Piece (Elt F) S256x4096 .fp8e4m3)
  | 0 => []
  | n + 1 => ⟨rW (n / 2 % 2) (n / 4 * 2 + n % 2), wq blk arg9 arg10 (n / 2 % 2) (n / 4 * 2 + n % 2)⟩ :: wqList n

/-- The first `n` stores of the accumulator over contents `xs0`. -/
def accList : ℕ → List (View.Piece (Elt F) S160x4096 .f32)
  | 0 => []
  | n + 1 => ⟨rAcc n, k0_pay1 (xd v) (wdt blk arg9 arg10 arg11 0 n) (wdt blk arg9 arg10 arg11 1 n)
      (View.readAt (Elt F) arg8.view (rAcc n).toLoadRect (harg8.unread xs0))⟩ :: accList n

/-- The first `n` stores of the accumulator after it was filled with zero. -/
def accList0 : ℕ → List (View.Piece (Elt F) S160x4096 .f32)
  | 0 => [⟨Rect.unit ![0, 0] S160x4096.size inb_S160x4096_S160x4096_0_0, k0_pay5⟩]
  | n + 1 => ⟨rAcc n, k0_pay1 (xd v) (wdt blk arg9 arg10 arg11 0 n) (wdt blk arg9 arg10 arg11 1 n)
      (arg8.view.readCov (accList0 n) (rAcc n).toLoadRect)⟩ :: accList0 n

/-- The first `n` stores of the weight's exponents over contents `xs5`. -/
def wseList : ℕ → List (View.Piece (Elt F) S32x128 .i32)
  | 0 => []
  | n + 1 => ⟨rWs n, wseUpd st (n / 4) (wexp blk arg9 n)
      (if n < 4 then View.readAt (Elt F) arg13.view (rWs n).toLoadRect (harg13.unread xs5)
       else arg13.view.readCov (wseList n) (rWs n).toLoadRect)⟩ :: wseList n

/-- The first `n` stores of the weight's exponents after they were filled with zero. -/
def wseList0 : ℕ → List (View.Piece (Elt F) S32x128 .i32)
  | 0 => [⟨Rect.unit ![0, 0] S32x128.size inb_S32x128_S32x128_0_0, k0_pay7⟩]
  | n + 1 => ⟨rWs n, wseUpd st (n / 4) (wexp blk arg9 n) (arg13.view.readCov (wseList0 n) (rWs n).toLoadRect)⟩ :: wseList0 n

/-- The two stores of the quantised rows. -/
def xqList : List (View.Piece (Elt F) S160x256 .fp8e4m3) := [⟨rX 1, xq (v 1)⟩, ⟨rX 0, xq (v 0)⟩]

section xse
variable (arg12 : Memref sig .tc .vmem S160x128 .i32) (old : IVec S160x128 32) (base : List (View.Piece (Elt F) S160x128 .i32))

abbrev rXs : Rect S160x128 := Rect.unit ![0, 0] S160x128.size inb_S160x128_S160x128_0_0

/-- The first store of the rows' exponents. -/
def xseList1 : List (View.Piece (Elt F) S160x128 .i32) := ⟨rXs, xseUpd st 0 (xexp (v 0)) old⟩ :: base
/-- Both stores of the rows' exponents. -/
def xseList : List (View.Piece (Elt F) S160x128 .i32) :=
  ⟨rXs, xseUpd st 1 (xexp (v 1)) (arg12.view.readCov (xseList1 v st old base) rXs.toLoadRect)⟩ :: xseList1 v st old base
end xse

abbrev rY : Rect S160x4096 := Rect.unit ![0, 0] ![160, 4096] inb_S160x4096_S160x4096_0_0
abbrev rXsOut : Rect S160x86 := Rect.unit ![0, 0] ![160, 86] inb_S160x86_S160x86_0_0
abbrev rXsIn : Rect S160x128 := Rect.unit ![0, 0] ![160, 86] inb_S160x128_S160x86_0_0
abbrev rWsOut : Rect S32x86 := Rect.unit ![0, 0] ![32, 86] inb_S32x86_S32x86_0_0
abbrev rWsIn : Rect S32x128 := Rect.unit ![0, 0] ![32, 86] inb_S32x128_S32x86_0_0

/-- The store of the product at the last point, from the accumulator's pieces. -/
def yPieces (L : List (View.Piece (Elt F) S160x4096 .f32)) : List (View.Piece (Elt F) S160x4096 .bf16) :=
  [⟨rY, k0_pay2 (F := F) (arg8.view.readCov (Val := Elt F) L rY.toLoadRect : Vec F S160x4096 .f32)⟩]
/-- The store of the rows' scales at the last point. -/
def xsPieces (arg12 : Memref sig .tc .vmem S160x128 .i32) (L : List (View.Piece (Elt F) S160x128 .i32)) : List (View.Piece (Elt F) S160x86 .i8) :=
  [⟨rXsOut, k0_pay3 (F := F) (arg12.view.readCov (Val := Elt F) L rXsIn.toLoadRect : Vec F S160x86 .i32)⟩]
/-- The store of the weight's scales at the last point. -/
def wsPieces (L : List (View.Piece (Elt F) S32x128 .i32)) : List (View.Piece (Elt F) S32x86 .i8) :=
  [⟨rWsOut, k0_pay4 (F := F) (arg13.view.readCov (Val := Elt F) L rWsIn.toLoadRect : Vec F S32x86 .i32)⟩]

end Cert.KernelIdeal.Words
-- ==== Proof.Cases.lean ====
module

public import proofs.«01_k».proof.Proof.Words

@[expose] public section

set_option maxRecDepth 16384

noncomputable section

namespace Cert.KernelIdeal.Words

open Idealize.ShloMosaic Idealize.ShloMosaic.TcCoe Idealize.SL.Sem
open Cert.KernelIdeal Cert.KernelIdeal.Gen

variable {F : FTy → Type} [FloatOps F]

/-! The pieces each case of the body leaves, as the lists of `Words`. -/

variable (c : Dev nD) (i : grid0.Coords) (arg1 : Memref sig .tc .vmem S160x256 .bf16) (harg1 : arg1.IsWhole) (arg2 : Memref sig .tc .vmem S256x4096 .bf16) (harg2 : arg2.IsWhole) (arg3 : Memref sig .tc .vmem S160x4096 .bf16) (harg3 : arg3.IsWhole) (arg4 : Memref sig .tc .vmem S160x256 .fp8e4m3) (harg4 : arg4.IsWhole) (arg5 : Memref sig .tc .vmem S160x86 .i8) (harg5 : arg5.IsWhole) (arg6 : Memref sig .tc .vmem S256x4096 .fp8e4m3) (harg6 : arg6.IsWhole) (arg7 : Memref sig .tc .vmem S32x86 .i8) (harg7 : arg7.IsWhole) (arg8 : Memref sig .tc .vmem S160x4096 .f32) (harg8 : arg8.IsWhole) (arg9 : Memref sig .tc .vmem S8x72x128 .f32) (harg9 : arg9.IsWhole) (arg10 : Memref sig .tc .vmem S8x8x128 .i32) (harg10 : arg10.IsWhole) (arg11 : Memref sig .tc .vmem S8x8x128 .i32) (harg11 : arg11.IsWhole) (arg12 : Memref sig .tc .vmem S160x128 .i32) (harg12 : arg12.IsWhole) (arg13 : Memref sig .tc .vmem S32x128 .i32) (harg13 : arg13.IsWhole)
variable (x0 : Vec F S160x256 .bf16) (x1 : Vec F S256x4096 .bf16) (xs0 : Vec F S160x4096 .f32) (xs4 : Vec F S160x128 .i32) (xs5 : Vec F S32x128 .i32)

/-- Block `(kb, nb)` of the weight block in the window. -/
def wblk (kb nb : ℕ) : Vec F S128x128 .bf16 := View.readAt (Elt F) arg2.view (rW kb nb).toLoadRect (harg2.unread x1)
/-- Block `kb` of the rows in the window. -/
def xblk (kb : ℕ) : Vec F S160x128 .bf16 := View.readAt (Elt F) arg1.view (rX kb).toLoadRect (harg1.unread x0)

/-- The step of the grid, as the body reads it. -/
abbrev stepW : BitVec 32 := BitVec.ofNat 32 (i 0).val

/-- Case A's pieces for the quantised rows. -/
theorem xq_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.1
      = xqList (xblk arg1 harg1 x0) := by sl_kernel_rfl

/-- Case A's pieces for the quantised weight. -/
theorem wq_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.1
      = wqList (wblk arg2 harg2 x1) arg9 arg10 64 := by sl_kernel_rfl

/-- Case A's pieces for the accumulator. -/
theorem acc_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.2.2.1
      = accList0 (wblk arg2 harg2 x1) (xblk arg1 harg1 x0) arg8 arg9 arg10 arg11 16 := by sl_kernel_rfl

/-- Case A's pieces for the rows' exponents. -/
theorem xse_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.2.2.2.1
      = xseList (xblk arg1 harg1 x0) (stepW i) arg12 (arg12.view.readCov (Val := Elt F) [⟨rXs, (k0_pay6 : IVec S160x128 32)⟩] rXs.toLoadRect) [⟨rXs, k0_pay6⟩] := by sl_kernel_rfl

/-- Case A's pieces for the weight's exponents. -/
theorem wse_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.2.2.2.2.1
      = wseList0 (wblk arg2 harg2 x1) (stepW i) arg9 arg13 8 := by sl_kernel_rfl

/-- Case B's pieces for the quantised rows. -/
theorem xq_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).2.1
      = xqList (xblk arg1 harg1 x0) := by sl_kernel_rfl

/-- Case B's pieces for the quantised weight. -/
theorem wq_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).2.2.2.1
      = wqList (wblk arg2 harg2 x1) arg9 arg10 64 := by sl_kernel_rfl

/-- Case B's pieces for the accumulator. -/
theorem acc_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).2.2.2.2.2.1
      = accList (wblk arg2 harg2 x1) (xblk arg1 harg1 x0) arg8 harg8 arg9 arg10 arg11 xs0 16 := by sl_kernel_rfl

/-- Case B's pieces for the rows' exponents. -/
theorem xse_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).2.2.2.2.2.2.1
      = xseList (xblk arg1 harg1 x0) (stepW i) arg12 (View.readAt (Elt F) arg12.view rXs.toLoadRect (harg12.unread xs4)) [] := by sl_kernel_rfl

/-- Case B's pieces for the weight's exponents. -/
theorem wse_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).2.2.2.2.2.2.2.1
      = wseList (wblk arg2 harg2 x1) (stepW i) arg9 arg13 harg13 xs5 8 := by sl_kernel_rfl

/-- Case C's pieces for the quantised rows. -/
theorem xq_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).2.1
      = xqList (xblk arg1 harg1 x0) := by sl_kernel_rfl

/-- Case C's pieces for the quantised weight. -/
theorem wq_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).2.2.2.1
      = wqList (wblk arg2 harg2 x1) arg9 arg10 64 := by sl_kernel_rfl

/-- Case C's pieces for the accumulator. -/
theorem acc_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).2.2.2.2.2.1
      = accList (wblk arg2 harg2 x1) (xblk arg1 harg1 x0) arg8 harg8 arg9 arg10 arg11 xs0 16 := by sl_kernel_rfl

/-- Case C's pieces for the rows' exponents. -/
theorem xse_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).2.2.2.2.2.2.1
      = xseList (xblk arg1 harg1 x0) (stepW i) arg12 (View.readAt (Elt F) arg12.view rXs.toLoadRect (harg12.unread xs4)) [] := by sl_kernel_rfl

/-- Case C's pieces for the weight's exponents. -/
theorem wse_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).2.2.2.2.2.2.2.1
      = wseList (wblk arg2 harg2 x1) (stepW i) arg9 arg13 harg13 xs5 8 := by sl_kernel_rfl

/-- Case C's pieces for the product. -/
theorem y_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).1
      = yPieces arg8 (accList (wblk arg2 harg2 x1) (xblk arg1 harg1 x0) arg8 harg8 arg9 arg10 arg11 xs0 16) := by sl_kernel_rfl

/-- Case C's pieces for the rows' scales. -/
theorem xs_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).2.2.1
      = xsPieces arg12 (xseList (xblk arg1 harg1 x0) (stepW i) arg12 (View.readAt (Elt F) arg12.view rXs.toLoadRect (harg12.unread xs4)) []) := by sl_kernel_rfl

/-- Case C's pieces for the weight's scales. -/
theorem ws_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs4 xs5).2.2.2.2.1
      = wsPieces arg13 (wseList (wblk arg2 harg2 x1) (stepW i) arg9 arg13 harg13 xs5 8) := by sl_kernel_rfl

end Cert.KernelIdeal.Words
-- ==== Proof.Exponent.lean ====
module

public import proofs.«01_k».proof.Proof.Gen.KernelIdeal
public import Idealize.ShloMosaic.Lib.Pipeline.ValueKit
public import Idealize.ShloMosaic.Lib.Pointwise

@[expose] public section

set_option maxRecDepth 16384

noncomputable section

namespace Cert.Exponent

open Idealize.ShloMosaic Idealize.ShloMosaic.TcCoe Idealize.SL.Sem

/-! The exponent of a block's scale: the kernel searches it by comparing with powers of two, the reference takes a
logarithm. Both are `kOf a - 127`, for `a` the block's largest magnitude divided by 448. -/

/-- The power of two with biased exponent `n`. -/
def pw (n : ℕ) : EReal := (((2 : ℝ) ^ ((n : ℤ) - 127) : ℝ) : EReal)

theorem pw_le {m n : ℕ} (h : m ≤ n) : pw m ≤ pw n := by
  unfold pw
  exact EReal.coe_le_coe_iff.2 (zpow_le_zpow_right₀ (by norm_num) (by omega))

theorem f32_fields : ∀ n < 256, (BitVec.ofNat 32 n <<< 23).extractLsb' 31 1 = 0#1
    ∧ ((BitVec.ofNat 32 n <<< 23).extractLsb' 23 8).toNat = n
    ∧ ((BitVec.ofNat 32 n <<< 23).extractLsb' 0 23).toNat = 0 := by decide +kernel

theorem bf16_fields : ∀ n < 256, (BitVec.ofNat 16 (n * 128)).extractLsb' 15 1 = 0#1
    ∧ ((BitVec.ofNat 16 (n * 128)).extractLsb' 7 8).toNat = n
    ∧ ((BitVec.ofNat 16 (n * 128)).extractLsb' 0 7).toNat = 0 := by decide +kernel

theorem ieee_normal (e m : ℕ) {w : ℕ} (b : BitVec w) (n : ℕ) (hs : b.extractLsb' (e + m) 1 = 0#1) (he : (b.extractLsb' m e).toNat = n)
    (hf : (b.extractLsb' 0 m).toNat = 0) (h0 : n ≠ 0) (h1 : n ≠ 2 ^ e - 1) :
    Ideal.ieee e m b = (((2 : ℝ) ^ ((n : ℤ) - (2 ^ (e - 1) - 1)) : ℝ) : EReal) := by
  unfold Ideal.ieee
  simp only [hs, he, hf]
  rw [if_neg h1, if_neg h0]
  refine congrArg _ ?_
  have : ((n : ℤ) - (2 ^ (e - 1) - 1)) = (m : ℤ) + ((n : ℤ) - (2 ^ (e - 1) - 1) - (m : ℤ)) := by ring
  rw [this, zpow_add₀ (by norm_num)]
  simp

theorem ofBits_f32 (n : ℕ) (h1 : 0 < n) (h : n < 255) : Ideal.ofBits .f32 (BitVec.ofNat 32 n <<< 23) = pw n := by
  obtain ⟨hs, he, hf⟩ := f32_fields n (by omega)
  have := ieee_normal 8 23 (BitVec.ofNat 32 n <<< 23) n hs he hf (by omega) (by omega)
  exact this

theorem ofBits_f32_top : Ideal.ofBits .f32 (BitVec.ofNat 32 255 <<< 23) = ⊤ := by
  have : BitVec.ofNat 32 255 <<< 23 = 0x7F800000#32 := by decide
  rw [this]
  simp [Ideal.ofBits, Ideal.ieee]

theorem ofBits_bf16 (n : ℕ) (h1 : 0 < n) (h : n < 255) : Ideal.ofBits .bf16 (BitVec.ofNat 16 (n * 128)) = pw n := by
  obtain ⟨hs, he, hf⟩ := bf16_fields n (by omega)
  have := ieee_normal 8 7 (BitVec.ofNat 16 (n * 128)) n hs he hf (by omega) (by omega)
  exact this

/-- The exponent field of a number's f32 pattern: the largest `n` with `pw n` at most the number, 0 below `pw 1`. -/
def fld (a : EReal) : ℕ := Nat.findGreatest (fun n => pw n ≤ a) 254

/-- The biased exponent of the scale. -/
def kOf (a : EReal) : ℕ := if fld a = 0 then 127 else fld a + 1

theorem fld_eq {a : EReal} {n : ℕ} (hn : n ≤ 254) (h0 : n ≠ 0 → pw n ≤ a) (h1 : n < 254 → a < pw (n + 1)) : fld a = n := by
  unfold fld
  rw [Nat.findGreatest_eq_iff]
  refine ⟨hn, h0, fun m hm hm' => ?_⟩
  exact not_le.2 ((h1 (by omega)).trans_le (pw_le hm))

theorem fld_le (a : EReal) : fld a ≤ 254 := Nat.findGreatest_le _

theorem pw_fld {a : EReal} (h : fld a ≠ 0) : pw (fld a) ≤ a :=
  ((Nat.findGreatest_eq_iff (P := fun n => pw n ≤ a) (k := 254) (m := fld a)).1 rfl).2.1 h

theorem lt_pw_fld {a : EReal} (h : fld a < 254) : a < pw (fld a + 1) :=
  not_le.1 (((Nat.findGreatest_eq_iff (P := fun n => pw n ≤ a) (k := 254) (m := fld a)).1 rfl).2.2 (Nat.lt_succ_self _) (by omega))

theorem fld_lt {a : EReal} (h : a < pw 247) : fld a ≤ 246 := by
  by_contra hc
  exact absurd ((pw_le (by omega : 247 ≤ fld a)).trans (pw_fld (by omega))) (not_le.2 h)

theorem kOf_bounds {a : EReal} (h : a < pw 247) : 2 ≤ kOf a ∧ kOf a ≤ 247 := by
  have := fld_lt h
  unfold kOf; split <;> omega

/-! ### The search -/

/-- One step of the search: raise the field by `b` if the number is at least the power of two there. -/
def srch (a : Ideal .f32) (f b : BitVec 32) : BitVec 32 :=
  Scalar.select (FloatOps.cmpf .oge a (FloatOps.ofBits .f32 (IntOp.shli .vector (IntOp.addi f b) 23#32))) (IntOp.addi f b) f

/-- The field the eight steps find. -/
def srchAll (a : Ideal .f32) : BitVec 32 :=
  srch a (srch a (srch a (srch a (srch a (srch a (srch a (srch a 0#32 128#32) 64#32) 32#32) 16#32) 8#32) 4#32) 2#32) 1#32

/-- The exponent the kernel makes of the field. -/
def expB (a : Ideal .f32) : BitVec 32 :=
  Scalar.select (IntOp.andi (IntOp.cmpi .sgt (srchAll a) 0#32) (IntOp.cmpi .slt (srchAll a) 255#32))
    (IntOp.subi (srchAll a) 126#32) 0#32

def Inv (a : EReal) (n w : ℕ) : Prop := n + w ≤ 256 ∧ (n = 0 ∨ (n ≤ 254 ∧ pw n ≤ a)) ∧ (255 ≤ n + w ∨ a < pw (n + w))

theorem srch_step {a : EReal} (ha : a < ⊤) (n b : ℕ) (hb : 0 < b) (h : Inv a n (2 * b)) :
    ∃ n', srch a (BitVec.ofNat 32 n) (BitVec.ofNat 32 b) = BitVec.ofNat 32 n' ∧ Inv a n' b := by
  obtain ⟨hle, hlo, hhi⟩ := h
  have hsh : IntOp.shli .vector (IntOp.addi (BitVec.ofNat 32 n) (BitVec.ofNat 32 b)) 23#32 = BitVec.ofNat 32 (n + b) <<< 23 := by
    simp [IntOp.shli, IntOp.addi, BitVec.ofNat_add]
  have hadd : IntOp.addi (BitVec.ofNat 32 n) (BitVec.ofNat 32 b) = BitVec.ofNat 32 (n + b) := by
    simp [IntOp.addi, BitVec.ofNat_add]
  unfold srch
  rw [hsh, hadd]
  have hcmp : ∀ x y : EReal, FloatOps.cmpf (F := Ideal) (φ := .f32) .oge x y = BitVec.ofBool (decide (y ≤ x)) := fun _ _ => rfl
  rw [hcmp, Ideal.ofBits_def]
  by_cases h255 : n + b = 255
  · rw [h255, ofBits_f32_top, decide_eq_false (not_le.2 ha)]
    exact ⟨n, by simp [Scalar.select], by omega, hlo, Or.inl (by omega)⟩
  · rw [ofBits_f32 _ (by omega) (by omega)]
    by_cases hp : pw (n + b) ≤ a
    · rw [decide_eq_true hp]
      refine ⟨n + b, by simp [Scalar.select], by omega, Or.inr ⟨by omega, hp⟩, ?_⟩
      rw [show n + b + b = n + 2 * b by ring]; exact hhi
    · rw [decide_eq_false hp]
      exact ⟨n, by simp [Scalar.select], by omega, hlo, Or.inr (not_le.1 hp)⟩

theorem srchAll_eq {a : EReal} (ha : a < ⊤) : srchAll a = BitVec.ofNat 32 (fld a) := by
  have h0 : Inv a 0 (2 * 128) := ⟨by omega, Or.inl rfl, Or.inl (by omega)⟩
  obtain ⟨n1, e1, h1⟩ := srch_step ha 0 128 (by omega) h0
  obtain ⟨n2, e2, h2⟩ := srch_step ha n1 64 (by omega) h1
  obtain ⟨n3, e3, h3⟩ := srch_step ha n2 32 (by omega) h2
  obtain ⟨n4, e4, h4⟩ := srch_step ha n3 16 (by omega) h3
  obtain ⟨n5, e5, h5⟩ := srch_step ha n4 8 (by omega) h4
  obtain ⟨n6, e6, h6⟩ := srch_step ha n5 4 (by omega) h5
  obtain ⟨n7, e7, h7⟩ := srch_step ha n6 2 (by omega) h6
  obtain ⟨n8, e8, h8⟩ := srch_step ha n7 1 (by omega) h7
  have : srchAll a = BitVec.ofNat 32 n8 := by
    unfold srchAll; rw [e1, e2, e3, e4, e5, e6, e7, e8]
  rw [this]
  obtain ⟨ha1, ha2, ha3⟩ := h8
  have h254 : n8 ≤ 254 := by rcases ha2 with h | h <;> omega
  rw [fld_eq h254 (fun h => by rcases ha2 with h' | h'; exact absurd h' h; exact h'.2)
    (fun h => by rcases ha3 with h' | h'; omega; exact h')]

theorem exp_words : ∀ n < 255, Scalar.select (IntOp.andi (IntOp.cmpi .sgt (BitVec.ofNat 32 n) 0#32) (IntOp.cmpi .slt (BitVec.ofNat 32 n) 255#32))
    (IntOp.subi (BitVec.ofNat 32 n) 126#32) 0#32 = BitVec.ofNat 32 (if n = 0 then 127 else n + 1) - 127#32 := by decide +kernel

/-- The kernel's exponent. -/
theorem expB_eq {a : EReal} (ha : a < ⊤) : expB a = BitVec.ofNat 32 (kOf a) - 127#32 := by
  unfold expB
  rw [srchAll_eq ha, exp_words _ (by have := fld_le a; omega)]; rfl

/-! ### The logarithm -/

/-- The exponent the reference makes of the number. -/
def expR (a : Ideal .f32) : BitVec 32 :=
  FloatOps.fptosi 32 (Scalar.select (IntOp.andi (FloatOps.cmpf .oge a (FloatOps.ofBits .f32 0x00800000#32))
      (FloatOps.cmpf .olt a (FloatOps.ofBits .f32 0x7F800000#32)))
    (FloatOps.addf (FloatOps.floor (FloatOps.mulf (FloatOps.log a) (((Real.log 2)⁻¹ : ℝ) : EReal))) (FloatOps.ofBits .f32 0x3F800000#32))
    (FloatOps.ofBits .f32 0x00000000#32))

theorem floor_log {r : ℝ} {n : ℕ} (h0 : (2 : ℝ) ^ ((n : ℤ) - 127) ≤ r) (h1 : r < (2 : ℝ) ^ (((n + 1 : ℕ) : ℤ) - 127)) :
    ⌊Real.log r * (Real.log 2)⁻¹⌋ = (n : ℤ) - 127 := by
  have h2 : 0 < Real.log 2 := Real.log_pos (by norm_num)
  have hp : 0 < (2 : ℝ) ^ ((n : ℤ) - 127) := by positivity
  have hr : 0 < r := hp.trans_le h0
  rw [Int.floor_eq_iff, ← div_eq_mul_inv, le_div_iff₀ h2, div_lt_iff₀ h2]
  constructor
  · have := Real.log_le_log hp h0
    rwa [Real.log_zpow] at this
  · have := Real.log_lt_log hr h1
    rw [Real.log_zpow] at this
    push_cast at this ⊢
    linarith

theorem ofInt_words : ∀ n : ℕ, n < 255 → 0 < n → BitVec.ofInt 32 ((n : ℤ) - 126) = BitVec.ofNat 32 (Nat.succ n) - 127#32 := by decide +kernel

/-- The reference's exponent. -/
theorem expR_eq {a : EReal} (h0 : 0 ≤ a) (ha : a < pw 247) : expR a = BitVec.ofNat 32 (kOf a) - 127#32 := by
  have hlt : a < ⊤ := ha.trans_le le_top
  lift a to ℝ using ⟨hlt.ne, (EReal.bot_lt_zero.trans_le h0).ne'⟩ with r
  have hb1 : Ideal.ofBits .f32 0x00800000#32 = pw 1 := ofBits_f32 1 (by omega) (by omega)
  have hbt : Ideal.ofBits .f32 0x7F800000#32 = ⊤ := ofBits_f32_top
  have hge : FloatOps.cmpf (F := Ideal) (φ := .f32) .oge (r : EReal) (FloatOps.ofBits .f32 0x00800000#32) = BitVec.ofBool (decide (pw 1 ≤ (r : EReal))) := by
    rw [Ideal.ofBits_def, hb1]; rfl
  have hlt' : FloatOps.cmpf (F := Ideal) (φ := .f32) .olt (r : EReal) (FloatOps.ofBits .f32 0x7F800000#32) = 1#1 := by
    rw [Ideal.ofBits_def, hbt]
    show BitVec.ofBool (decide ((r : EReal) < ⊤)) = 1#1
    rw [decide_eq_true hlt]; rfl
  unfold expR
  rw [hge, hlt']
  have hfl := fld_lt ha
  by_cases hf : fld (r : EReal) = 0
  · have hn : ¬ pw 1 ≤ (r : EReal) := by
      have := lt_pw_fld (a := (r : EReal)) (by omega)
      rw [hf] at this; exact not_le.2 this
    rw [decide_eq_false hn]
    have : kOf (r : EReal) = 127 := by unfold kOf; rw [if_pos hf]
    rw [this]
    have hc : IntOp.andi (BitVec.ofBool false) 1#1 = 0#1 := by decide
    rw [hc, show ∀ x y : Ideal .f32, Scalar.select 0#1 x y = y from fun _ _ => rfl]
    show Ideal.fptosi 32 (Ideal.ofBits .f32 0x00000000#32) = _
    rw [Ideal.ofBits_zero_f32]
    show BitVec.ofInt 32 (Ideal.toIntClamped _ _ ((0 : ℝ) : EReal)) = _
    rw [Ideal.toIntClamped_coe]
    simp
  · have h1 : pw 1 ≤ (r : EReal) := (pw_le (by omega)).trans (pw_fld hf)
    rw [decide_eq_true h1]
    have hk : kOf (r : EReal) = fld (r : EReal) + 1 := by unfold kOf; rw [if_neg hf]
    rw [hk, ← ofInt_words (fld (r : EReal)) (by omega) (by omega)]
    generalize hn : fld (r : EReal) = n at *
    have hlo : (2 : ℝ) ^ ((n : ℤ) - 127) ≤ r := by
      have := pw_fld (a := (r : EReal)) (by omega); rw [hn] at this; exact EReal.coe_le_coe_iff.1 this
    have hhi : r < (2 : ℝ) ^ (((n + 1 : ℕ) : ℤ) - 127) := by
      have := lt_pw_fld (a := (r : EReal)) (by omega); rw [hn] at this; exact EReal.coe_lt_coe_iff.1 this
    have hr : 0 < r := lt_of_lt_of_le (by positivity) hlo
    have hc : IntOp.andi (BitVec.ofBool true) 1#1 = 1#1 := by decide
    rw [hc, show ∀ x y : Ideal .f32, Scalar.select 1#1 x y = x from fun _ _ => rfl]
    show Ideal.fptosi 32 (Ideal.liftRound Int.floor (Ideal.log (r : EReal) * (((Real.log 2)⁻¹ : ℝ) : EReal)) + Ideal.ofBits .f32 0x3F800000#32) = _
    rw [Ideal.log_coe, if_neg (not_le.2 hr), ← EReal.coe_mul]
    show Ideal.fptosi 32 ((((⌊Real.log r * (Real.log 2)⁻¹⌋ : ℤ) : ℝ) : EReal) + Ideal.ofBits .f32 0x3F800000#32) = _
    rw [floor_log hlo hhi, Ideal.ofBits_one_f32]
    have : ((((n : ℤ) - 127 : ℤ) : ℝ) : EReal) + 1 = ((((n : ℤ) - 126 : ℤ) : ℝ) : EReal) := by
      rw [← EReal.coe_one, ← EReal.coe_add]; congr 1; push_cast; ring
    rw [this]
    show BitVec.ofInt 32 (Ideal.toIntClamped _ _ _) = _
    rw [Ideal.toIntClamped_coe]
    congr 1
    simp only [Int.floor_intCast, Int.ceil_intCast, ite_self]
    norm_num
    omega

/-! ### The powers of two both sides multiply by -/

theorem inv_word : ∀ k < 256, 2 ≤ k → k ≤ 247 → IntOp.shli .vector (IntOp.addi (IntOp.subi 0#32 (BitVec.ofNat 32 k - 127#32)) 127#32) 23#32
    = BitVec.ofNat 32 (254 - k) <<< 23 := by decide +kernel

theorem scl_word : ∀ k < 256, IntOp.shli .vector (IntOp.addi (BitVec.ofNat 32 k - 127#32) 127#32) 23#32
    = BitVec.ofNat 32 k <<< 23 := by decide +kernel

/-- Either half of the pair of bf16 patterns the kernel packs into a word. -/
def pairW (e : BitVec 32) : BitVec 32 :=
  IntOp.ori (IntOp.shli .vector (IntOp.addi e 127#32) 7#32) (IntOp.shli .vector (IntOp.shli .vector (IntOp.addi e 127#32) 7#32) 16#32)

theorem inv_pair : ∀ k < 256, 2 ≤ k → k ≤ 247 →
    (pairW (IntOp.subi 0#32 (BitVec.ofNat 32 k - 127#32))).extractLsb' 0 16 = BitVec.ofNat 16 ((254 - k) * 128)
    ∧ (pairW (IntOp.subi 0#32 (BitVec.ofNat 32 k - 127#32))).extractLsb' 16 16 = BitVec.ofNat 16 ((254 - k) * 128) := by decide +kernel

theorem scl_pair : ∀ k < 256, (pairW (BitVec.ofNat 32 k - 127#32)).extractLsb' 0 16 = BitVec.ofNat 16 (k * 128)
    ∧ (pairW (BitVec.ofNat 32 k - 127#32)).extractLsb' 16 16 = BitVec.ofNat 16 (k * 128) := by decide +kernel

theorem toInt_word : ∀ k < 256, (BitVec.ofNat 32 k - 127#32).toInt = (k : ℤ) - 127 := by decide +kernel

theorem code_word : ∀ k < 256, IntOp.subi (((IntOp.addi (BitVec.ofNat 32 k - 127#32) 127#32).setWidth 8).setWidth 32) 127#32
    = BitVec.ofNat 32 k - 127#32 := by decide +kernel

theorem exp2_int (z : ℤ) : Ideal.exp2 (((z : ℝ)) : EReal) = (((2 : ℝ) ^ z : ℝ) : EReal) := by
  rw [Ideal.exp2_coe]
  congr 1
  show (2 : ℝ) ^ ((z : ℝ)) = _
  exact Real.rpow_intCast 2 z

/-- The reference's power that scales back. -/
theorem exp2_scl {k : ℕ} (hk : k < 256) : Ideal.exp2 (((BitVec.ofNat 32 k - 127#32).toInt : ℝ) : EReal) = pw k := by
  rw [toInt_word k hk, exp2_int]; rfl

/-- The reference's power that scales down. -/
theorem exp2_inv {k : ℕ} (hk : k ≤ 254) : Ideal.exp2 (0 - (((BitVec.ofNat 32 k - 127#32).toInt : ℝ) : EReal)) = pw (254 - k) := by
  rw [toInt_word k (by omega), ← EReal.coe_zero, ← EReal.coe_sub,
    show (0 : ℝ) - (((k : ℤ) - 127 : ℤ) : ℝ) = (((127 - (k : ℤ)) : ℤ) : ℝ) by push_cast; ring, exp2_int]
  unfold pw
  congr 2
  omega

end Cert.Exponent
-- ==== Proof.Block.lean ====
module

public import proofs.«01_k».proof.Proof.Cases
public import proofs.«01_k».proof.Proof.Exponent
public import Idealize.ShloMosaic.Lib.BitcastPair

@[expose] public section

set_option maxRecDepth 16384

noncomputable section

namespace Cert.KernelIdeal.Block

open Idealize.ShloMosaic Idealize.ShloMosaic.TcCoe Idealize.SL.Sem
open Cert.KernelIdeal Cert.KernelIdeal.Gen Cert.KernelIdeal.Words Cert.Exponent

/-- The magnitude. -/
def ab (x : EReal) : EReal := max x (-x)

theorem pay8_le (B : Vec Ideal S128x128 .bf16) (t : Fin 8) (l : Fin 128) (b : EReal) :
    k0_pay8 B (ix3 (0 : Fin 1) t l) ≤ b ↔ ∀ q : Fin 16, ab (B (ix2 (⟨8 * q.val + t.val, by omega⟩ : Fin 128) l)) ≤ b := by
  have e : ∀ (n m : ℕ) (_ : n = m) (hn : n < 128) (hm : m < 128), ab (B (ix2 (⟨n, hn⟩ : Fin 128) l)) ≤ ab (B (ix2 (⟨m, hm⟩ : Fin 128) l)) := by
    rintro n _ rfl _ _; exact le_rfl
  pointwise [k0_pay8]
  simp only [max_le_iff]
  constructor
  · rintro ⟨⟨⟨⟨h0, h1⟩, ⟨h2, h3⟩⟩, ⟨h4, h5⟩, ⟨h6, h7⟩⟩, ⟨⟨g0, g1⟩, ⟨g2, g3⟩⟩, ⟨g4, g5⟩, ⟨g6, g7⟩⟩ q
    fin_cases q
    · exact (e _ _ (by simp) _ _).trans h0
    · exact (e _ _ (by simp) _ _).trans g0
    · exact (e _ _ (by simp) _ _).trans h1
    · exact (e _ _ (by simp; omega) _ _).trans g1
    · exact (e _ _ (by simp) _ _).trans h2
    · exact (e _ _ (by simp; omega) _ _).trans g2
    · exact (e _ _ (by simp) _ _).trans h3
    · exact (e _ _ (by simp; omega) _ _).trans g3
    · exact (e _ _ (by simp) _ _).trans h4
    · exact (e _ _ (by simp; omega) _ _).trans g4
    · exact (e _ _ (by simp) _ _).trans h5
    · exact (e _ _ (by simp; omega) _ _).trans g5
    · exact (e _ _ (by simp) _ _).trans h6
    · exact (e _ _ (by simp; omega) _ _).trans g6
    · exact (e _ _ (by simp) _ _).trans h7
    · exact (e _ _ (by simp; omega) _ _).trans g7
  · intro h
    exact ⟨⟨⟨⟨(e _ _ (by simp) _ _).trans (h 0), (e _ _ (by simp) _ _).trans (h 2)⟩,
        ⟨(e _ _ (by simp) _ _).trans (h 4), (e _ _ (by simp) _ _).trans (h 6)⟩⟩,
        ⟨(e _ _ (by simp) _ _).trans (h 8), (e _ _ (by simp) _ _).trans (h 10)⟩,
        ⟨(e _ _ (by simp) _ _).trans (h 12), (e _ _ (by simp) _ _).trans (h 14)⟩⟩,
      ⟨⟨(e _ _ (by simp) _ _).trans (h 1), (e _ _ (by simp; omega) _ _).trans (h 3)⟩,
        ⟨(e _ _ (by simp; omega) _ _).trans (h 5), (e _ _ (by simp; omega) _ _).trans (h 7)⟩⟩,
        ⟨(e _ _ (by simp; omega) _ _).trans (h 9), (e _ _ (by simp; omega) _ _).trans (h 11)⟩,
        ⟨(e _ _ (by simp; omega) _ _).trans (h 13), (e _ _ (by simp; omega) _ _).trans (h 15)⟩⟩

theorem ofBits_bot : Ideal.ofBits .f32 0xFF800000#32 = ⊥ := by
  simp [Ideal.ofBits, Ideal.ieee]

theorem pay168_le (ld : ℕ → Vec Ideal S1x8x128 .f32) (s : Fin 8) (l : Fin 128) (b : EReal) :
    k0_pay168 (ld 0) (ld 1) (ld 2) (ld 3) (ld 4) (ld 5) (ld 6) (ld 7) (ix2 s l) ≤ b ↔ ∀ (t : Fin 8) (c : Fin 128), ld t.val (ix3 (0 : Fin 1) s c) ≤ b := by
  pointwise [k0_pay168]
  rw [Finset.fold_max_le, ofBits_bot]
  simp only [max_le_iff, bot_le, true_and, Finset.mem_univ, true_implies]
  constructor
  · intro h t c
    obtain ⟨⟨⟨h0, h1⟩, ⟨h2, h3⟩⟩, ⟨h4, h5⟩, ⟨h6, h7⟩⟩ := h c
    fin_cases t <;> assumption
  · intro h c
    exact ⟨⟨⟨h 0 c, h 1 c⟩, ⟨h 2 c, h 3 c⟩⟩, ⟨h 4 c, h 5 c⟩, ⟨h 6 c, h 7 c⟩⟩

/-- The constant the largest magnitude is multiplied by, 1/448 rounded. -/
def cst : EReal := Ideal.ofBits .f32 0x3B124925#32

theorem expOf_apply (ld : ℕ → Vec Ideal S1x8x128 .f32) (s : Fin 8) (l : Fin 128) :
   expOf ld (ix2 s l) = expB (k0_pay168 (ld 0) (ld 1) (ld 2) (ld 3) (ld 4) (ld 5) (ld 6) (ld 7) (ix2 s l) * cst) := by
  sl_kernel_rfl

/-- The largest magnitude of a block of the weight. -/
def bm (B : Vec Ideal S128x128 .bf16) : EReal := ⨆ (r : Fin 128) (c : Fin 128), ab (B (ix2 r c))
/-- The largest magnitude of a row's block. -/
def rm (v : Vec Ideal S160x128 .bf16) (r : Fin 160) : EReal := ⨆ c : Fin 128, ab (v (ix2 r c))

/-- Either half of the words of one row of the table of powers. -/
theorem half (row : Vec Ideal S1x1x128 .i32) (w : BitVec 16) (q : Fin 16) (l : Fin 128)
    (h : ∀ q < 2, (row (ix3 (0 : Fin 1) (0 : Fin 1) l)).extractLsb' (16 * q) 16 = w)
    (h1 : S1x1x128.ShapeCasts S1x128) (h2 : S1x128.Broadcasts S8x128) (h3 : S8x128.Bitcasts 32 S16x128 16) :
    bitcast S16x128 16 (broadcastTo S8x128 (shapeCast S1x128 row h1) h2) h3 (ix2 q l) = w := by
  rw [bitcast_32_16]
  rw [← h _ (Nat.mod_lt (S16x128.row (ix2 q l)) (by omega : 0 < 2))]
  refine congrArg (BitVec.extractLsb' _ 16) ?_
  generalize hj : Shape.Bitcasts.srcIdx h3 (ix2 q l) _ _ = j
  have hj1 : (j 1).val = l.val := by rw [← hj]; rfl
  idx_vars j
  have : j1 = l := Fin.ext hj1
  subst this
  pointwise

theorem pay284_apply (B : Vec Ideal S128x128 .bf16) (row : Vec Ideal S1x1x128 .i32) (w : BitVec 16) (r l : Fin 128)
   (h : ∀ q < 2, (row (ix3 (0 : Fin 1) (0 : Fin 1) l)).extractLsb' (16 * q) 16 = w) :
    k0_pay284 (k0_pay283 B row) (ix2 r l) = min (max (B (ix2 r l) * Ideal.ofBits .bf16 w) (Ideal.ofBits .bf16 0xC3E0#16)) (Ideal.ofBits .bf16 0x43E0#16) := by
  pointwise [k0_pay284, k0_pay283]
  rw [half row w _ l h]

theorem pay285_apply (B : Vec Ideal S128x128 .bf16) (u row : Vec Ideal S1x1x128 .i32) (w : BitVec 16) (r l : Fin 128)
   (h : ∀ q < 2, (row (ix3 (0 : Fin 1) (0 : Fin 1) l)).extractLsb' (16 * q) 16 = w) :
    k0_pay285 (k0_pay283 B u) row (ix2 r l) = k0_pay284 (k0_pay283 B u) (ix2 r l) * Ideal.ofBits .bf16 w := by
  pointwise [k0_pay285, k0_pay284]
  rw [half row w _ l h]

theorem xexp_apply (v : Vec Ideal S160x128 .bf16) (r : Fin 160) (l : Fin 128) : xexp v (ix2 r l) = expB (rm v r * cst) := by
  have : k0_pay274 v (ix2 r l) = rm v r * cst := by
    pointwise [k0_pay274, k0_pay273]
    refine congrArg (· * cst) ?_
    refine eq_of_forall_ge_iff fun b => ?_
    rw [Finset.fold_max_le, ofBits_bot]
    unfold rm
    simp only [iSup_le_iff, bot_le, true_and, Finset.mem_univ, true_implies]
    rfl
  rw [← this]
  sl_kernel_rfl

theorem xq_apply (v : Vec Ideal S160x128 .bf16) (r : Fin 160) (l : Fin 128) :
   xq v (ix2 r l) = min (max (v (ix2 r l) * Ideal.ofBits .f32 (IntOp.shli .vector (IntOp.addi (IntOp.subi 0#32 (xexp v (ix2 r l))) 127#32) 23#32)) (Ideal.ofBits .f32 0xC3E00000#32)) (Ideal.ofBits .f32 0x43E00000#32) := by
  pointwise [xq, k0_pay269, k0_pay261]
  sl_kernel_rfl

theorem xdq_apply (v : Vec Ideal S160x128 .bf16) (r : Fin 160) (l : Fin 128) :
   xdq v (ix2 r l) = xq v (ix2 r l) * Ideal.ofBits .f32 (IntOp.shli .vector (IntOp.addi (xexp v (ix2 r l)) 127#32) 23#32) := by
  sl_kernel_rfl

/-! ### The lists of stores -/

theorem mem_rec {α : Type*} (L : ℕ → List α) (pc : ℕ → α) (hs : ∀ n, L (n + 1) = pc n :: L n) (p : α) :
    ∀ n, p ∈ L n ↔ p ∈ L 0 ∨ ∃ k < n, p = pc k := by
  intro n
  induction n with
  | zero => simp
  | succ n ih =>
    rw [hs, List.mem_cons, ih]
    constructor
    · rintro (h | h | ⟨k, hk, h⟩)
      · exact Or.inr ⟨n, by omega, h⟩
      · exact Or.inl h
      · exact Or.inr ⟨k, by omega, h⟩
    · rintro (h | ⟨k, hk, h⟩)
      · exact Or.inr (Or.inl h)
      · rcases Nat.lt_succ_iff_lt_or_eq.1 hk with hk | rfl
        · exact Or.inr (Or.inr ⟨k, hk, h⟩)
        · exact Or.inl h

variable (blk : ℕ → ℕ → Vec Ideal S128x128 .bf16)
variable (arg9 : Memref sig .tc .vmem S8x72x128 .f32) (arg10 : Memref sig .tc .vmem S8x8x128 .i32)
  (arg11 : Memref sig .tc .vmem S8x8x128 .i32)

/-- A strided load of the lane maxima, from the block it comes from. -/
theorem slab_load (i s t : ℕ) (hi : i < 8) (hs : s < 8) (ht : t < 8) (l : Fin 128) :
    arg9.view.readCov (slabList blk 64) (lSlab i t) (ix3 (0 : Fin 1) (⟨s, hs⟩ : Fin 8) l)
      = k0_pay8 (blk ((8 * i + s) / 32) ((8 * i + s) % 32)) (ix3 (0 : Fin 1) (⟨t, ht⟩ : Fin 8) l) := by
  have hm := fun p => mem_rec (slabList blk) (fun n => ⟨rSlab n, k0_pay8 (blk (n / 32) (n % 32))⟩) (fun _ => rfl) p 64
  rw [View.readCov_eq_canon']
  refine (View.canon_apply_of_pieces (fun y : S8x72x128.Idx => k0_pay8 (blk ((8 * (y 0).val + (y 1).val / 9) / 32) ((8 * (y 0).val + (y 1).val / 9) % 32))
    (ix3 (0 : Fin 1) (⟨(y 1).val % 9 % 8, by omega⟩ : Fin 8) (y 2))) _ ?_ _ ?_).trans ?_
  · intro p hp
    rcases (hm p).1 hp with h | ⟨k, hk, rfl⟩
    · exact absurd h List.not_mem_nil
    · intro x
      have hx0 : (x 0).val < 1 := (x 0).isLt
      have hx1 : (x 1).val < 8 := (x 1).isLt
      have e : 8 * (k / 8 % 8 + 1 * (x 0).val) + (9 * (k % 8) + 1 * (x 1).val) / 9 = k := by omega
      show k0_pay8 (blk (k / 32) (k % 32)) x = k0_pay8 (blk ((8 * (k / 8 % 8 + 1 * (x 0).val) + (9 * (k % 8) + 1 * (x 1).val) / 9) / 32)
        ((8 * (k / 8 % 8 + 1 * (x 0).val) + (9 * (k % 8) + 1 * (x 1).val) / 9) % 32)) (ix3 (0 : Fin 1) (⟨(9 * (k % 8) + 1 * (x 1).val) % 9 % 8, _⟩ : Fin 8) _)
      rw [e]
      refine congrArg _ ?_
      funext a; apply Fin.ext; fin_cases a
      · show (x 0).val = 0; omega
      · show (x 1).val = (9 * (k % 8) + 1 * (x 1).val) % 9 % 8; omega
      · show (x 2).val = 0 + 1 * (x 2).val; omega
  · refine ⟨_, (hm _).2 (Or.inr ⟨8 * i + s, by omega, rfl⟩), ?_⟩
    rw [Rect.mem_set_unit]
    intro a
    fin_cases a
    · show (8 * i + s) / 8 % 8 ≤ i % 8 + 1 * 0 ∧ i % 8 + 1 * 0 < (8 * i + s) / 8 % 8 + 1; omega
    · show 9 * ((8 * i + s) % 8) ≤ t % 8 + 9 * s ∧ t % 8 + 9 * s < 9 * ((8 * i + s) % 8) + 8; omega
    · show 0 ≤ 0 + 1 * l.val ∧ 0 + 1 * l.val < 0 + 128; omega
  · have e : 8 * (i % 8 + 1 * 0) + (t % 8 + 9 * s) / 9 = 8 * i + s := by omega
    show k0_pay8 (blk ((8 * (i % 8 + 1 * 0) + (t % 8 + 9 * s) / 9) / 32) ((8 * (i % 8 + 1 * 0) + (t % 8 + 9 * s) / 9) % 32))
      (ix3 (0 : Fin 1) (⟨(t % 8 + 9 * s) % 9 % 8, _⟩ : Fin 8) _) = _
    rw [e]
    refine congrArg _ ?_
    funext a; apply Fin.ext; fin_cases a
    · rfl
    · show (t % 8 + 9 * s) % 9 % 8 = t; omega
    · show 0 + 1 * l.val = l.val; omega

/-- A group's exponent is the search's, of the block's largest magnitude. -/
theorem wexp_apply (i s : ℕ) (hi : i < 8) (hs : s < 8) (l : Fin 128) :
    wexp blk arg9 i (ix2 (⟨s, hs⟩ : Fin 8) l) = expB (bm (blk ((8 * i + s) / 32) ((8 * i + s) % 32)) * cst) := by
  unfold wexp
  rw [expOf_apply (fun t => arg9.view.readCov (slabList blk 64) (lSlab i t))]
  refine congrArg (fun a => expB (a * cst)) ?_
  refine eq_of_forall_ge_iff fun b => ?_
  rw [pay168_le (fun t => arg9.view.readCov (slabList blk 64) (lSlab i t))]
  unfold bm
  simp only [iSup_le_iff]
  constructor
  · intro h r c
    have h1 := h (⟨r.val % 8, by omega⟩ : Fin 8) c
    rw [slab_load blk arg9 i s (r.val % 8) hi hs (by omega) c] at h1
    have h2 := (pay8_le _ _ _ _).1 h1 (⟨r.val / 8, by omega⟩ : Fin 16)
    have e : (⟨8 * (r.val / 8) + r.val % 8, by omega⟩ : Fin 128) = r := Fin.ext (by show 8 * (r.val / 8) + r.val % 8 = r.val; omega)
    rw [← e]; exact h2
  · intro h t c
    show arg9.view.readCov (slabList blk 64) (lSlab i t.val) _ ≤ b
    rw [slab_load blk arg9 i s t.val hi hs t.isLt c, pay8_le]
    exact fun q => h _ _

/-- A row of a table stored by groups. -/
theorem grp_load (m : Memref sig .tc .vmem S8x8x128 .i32) (L : ℕ → List (View.Piece (Elt Ideal) S8x8x128 .i32)) (f : ℕ → IVec S1x8x128 32)
    (h0 : L 0 = []) (hL : ∀ n, L (n + 1) = ⟨rGrp n, f n⟩ :: L n) (i s : ℕ) (hi : i < 8) (hs : s < 8) (l : Fin 128) :
    m.view.readCov (L 8) (rRow i s).toLoadRect (ix3 (0 : Fin 1) (0 : Fin 1) l) = f i (ix3 (0 : Fin 1) (⟨s, hs⟩ : Fin 8) l) := by
  have hm := fun p => mem_rec L (fun n => ⟨rGrp n, f n⟩) hL p 8
  rw [View.readCov_eq_canon']
  refine (View.canon_apply_of_pieces (Val := Elt Ideal) (e := .i32) (fun y : S8x8x128.Idx => f (y 0).val (ix3 (0 : Fin 1) (y 1) (y 2))) _ ?_ _ ?_).trans ?_
  · intro p hp
    rcases (hm p).1 hp with h | ⟨k, hk, rfl⟩
    · rw [h0] at h; exact absurd h List.not_mem_nil
    · intro x
      have hx0 : (x 0).val < 1 := (x 0).isLt
      show f k x = f (k % 8 + 1 * (x 0).val) (ix3 (0 : Fin 1) _ _)
      rw [show k % 8 + 1 * (x 0).val = k by omega]
      refine congrArg _ ?_
      funext a; apply Fin.ext; fin_cases a
      · show (x 0).val = 0; omega
      · show (x 1).val = 0 + 1 * (x 1).val; omega
      · show (x 2).val = 0 + 1 * (x 2).val; omega
  · refine ⟨_, (hm _).2 (Or.inr ⟨i, by omega, rfl⟩), ?_⟩
    rw [Rect.mem_set_unit]
    intro a
    fin_cases a
    · show i % 8 ≤ i % 8 + 1 * 0 ∧ i % 8 + 1 * 0 < i % 8 + 1; omega
    · show 0 ≤ s % 8 + 1 * 0 ∧ s % 8 + 1 * 0 < 0 + 8; omega
    · show 0 ≤ 0 + 1 * l.val ∧ 0 + 1 * l.val < 0 + 128; omega
  · show f (i % 8 + 1 * 0) (ix3 (0 : Fin 1) _ _) = _
    rw [show i % 8 + 1 * 0 = i by omega]
    refine congrArg _ ?_
    funext a; apply Fin.ext; fin_cases a
    · rfl
    · show s % 8 + 1 * 0 = s; omega
    · show 0 + 1 * l.val = l.val; omega

theorem pairOf_apply (e : IVec S8x128 32) (s : Fin 8) (l : Fin 128) : pairOf e (ix3 (0 : Fin 1) s l) = pairW (e (ix2 s l)) := by
  pointwise [pairOf]
  rfl

/-- The exponent of a block of the weight, biased. -/
def kw (B : Vec Ideal S128x128 .bf16) : ℕ := kOf (bm B * cst)
/-- The exponent of a row's block, biased. -/
def kx (v : Vec Ideal S160x128 .bf16) (r : Fin 160) : ℕ := kOf (rm v r * cst)

/-- The number divided by the scale and clipped to the range of the narrow type. -/
def qz (x : EReal) (k : ℕ) : EReal := min (max (x * pw (254 - k)) (Ideal.ofBits .f32 0xC3E00000#32)) (Ideal.ofBits .f32 0x43E00000#32)

theorem lo_eq : Ideal.ofBits .bf16 0xC3E0#16 = Ideal.ofBits .f32 0xC3E00000#32 := by
  simp [Ideal.ofBits, Ideal.ieee]
  rw [← EReal.coe_mul, ← EReal.coe_mul]; norm_num
theorem hi_eq : Ideal.ofBits .bf16 0x43E0#16 = Ideal.ofBits .f32 0x43E00000#32 := by
  simp [Ideal.ofBits, Ideal.ieee]
  rw [← EReal.coe_mul, ← EReal.coe_mul]; norm_num

section small
variable (h : ∀ kb nb, bm (blk kb nb) * cst < pw 247)
include h

theorem wexp_eq (i s : ℕ) (hi : i < 8) (hs : s < 8) (l : Fin 128) :
    wexp blk arg9 i (ix2 (⟨s, hs⟩ : Fin 8) l) = BitVec.ofNat 32 (kw (blk ((8 * i + s) / 32) ((8 * i + s) % 32))) - 127#32 := by
  rw [wexp_apply blk arg9 i s hi hs l, expB_eq ((h _ _).trans_le le_top)]; rfl

theorem invRow_half (kb nb : ℕ) (hk : kb < 2) (hn : nb < 32) (l : Fin 128) (q : ℕ) (hq : q < 2) :
    (invRow blk arg9 arg10 kb nb (ix3 (0 : Fin 1) (0 : Fin 1) l)).extractLsb' (16 * q) 16 = BitVec.ofNat 16 ((254 - kw (blk kb nb)) * 128) := by
  unfold invRow
  rw [grp_load arg10 (invList blk arg9) _ rfl (fun _ => rfl) (kb * 4 + nb / 8) (nb % 8) (by omega) (by omega), pairOf_apply]
  show (pairW (IntOp.subi 0#32 (wexp blk arg9 (kb * 4 + nb / 8) (ix2 (⟨nb % 8, by omega⟩ : Fin 8) l)))).extractLsb' (16 * q) 16 = _
  rw [wexp_eq blk arg9 h _ _ (by omega) (by omega), show (8 * (kb * 4 + nb / 8) + nb % 8) / 32 = kb by omega, show (8 * (kb * 4 + nb / 8) + nb % 8) % 32 = nb by omega]
  have hb := kOf_bounds (h kb nb)
  have := inv_pair (kw (blk kb nb)) (by unfold kw; omega) hb.1 hb.2
  interval_cases q
  · exact this.1
  · exact this.2

theorem sclRow_half (kb nb : ℕ) (hk : kb < 2) (hn : nb < 32) (l : Fin 128) (q : ℕ) (hq : q < 2) :
    (sclRow blk arg9 arg11 kb nb (ix3 (0 : Fin 1) (0 : Fin 1) l)).extractLsb' (16 * q) 16 = BitVec.ofNat 16 (kw (blk kb nb) * 128) := by
  unfold sclRow
  rw [grp_load arg11 (sclList blk arg9) _ rfl (fun _ => rfl) (kb * 4 + nb / 8) (nb % 8) (by omega) (by omega), pairOf_apply]
  rw [wexp_eq blk arg9 h _ _ (by omega) (by omega), show (8 * (kb * 4 + nb / 8) + nb % 8) / 32 = kb by omega, show (8 * (kb * 4 + nb / 8) + nb % 8) % 32 = nb by omega]
  have hb := kOf_bounds (h kb nb)
  have := scl_pair (kw (blk kb nb)) (by unfold kw; omega)
  interval_cases q
  · exact this.1
  · exact this.2

/-- A block of the weight quantised. -/
theorem wq_apply (kb nb : ℕ) (hk : kb < 2) (hn : nb < 32) (r l : Fin 128) :
    wq blk arg9 arg10 kb nb (ix2 r l) = qz (blk kb nb (ix2 r l)) (kw (blk kb nb)) := by
  have hb := kOf_bounds (h kb nb)
  unfold wq qz
  rw [pay284_apply _ _ _ r l (fun q hq => invRow_half blk arg9 arg10 h kb nb hk hn l q hq), lo_eq, hi_eq, ofBits_bf16 _ (by unfold kw; omega) (by unfold kw; omega)]

/-- and scaled back. -/
theorem wdq_apply (kb nb : ℕ) (hk : kb < 2) (hn : nb < 32) (r l : Fin 128) :
    wdq blk arg9 arg10 arg11 kb nb (ix2 r l) = qz (blk kb nb (ix2 r l)) (kw (blk kb nb)) * pw (kw (blk kb nb)) := by
  have hb := kOf_bounds (h kb nb)
  unfold wdq
  rw [pay285_apply _ _ _ _ r l (fun q hq => sclRow_half blk arg9 arg11 h kb nb hk hn l q hq), ofBits_bf16 _ (by unfold kw; omega) (by unfold kw; omega)]
  exact congrArg (· * _) (wq_apply blk arg9 arg10 h kb nb hk hn r l)
end small

theorem xexp_eq (v : Vec Ideal S160x128 .bf16) (r : Fin 160) (l : Fin 128) (h : rm v r * cst < pw 247) :
    xexp v (ix2 r l) = BitVec.ofNat 32 (kx v r) - 127#32 := by
  rw [xexp_apply, expB_eq (h.trans_le le_top)]; rfl

/-- A row's block quantised. -/
theorem xq_eq (v : Vec Ideal S160x128 .bf16) (r : Fin 160) (l : Fin 128) (h : rm v r * cst < pw 247) :
    xq v (ix2 r l) = qz (v (ix2 r l)) (kx v r) := by
  have hb := kOf_bounds h
  rw [xq_apply, xexp_eq v r l h, inv_word (kx v r) (by unfold kx; omega) hb.1 hb.2, ofBits_f32 _ (by unfold kx; omega) (by unfold kx; omega)]; rfl

/-- and scaled back. -/
theorem xdq_eq (v : Vec Ideal S160x128 .bf16) (r : Fin 160) (l : Fin 128) (h : rm v r * cst < pw 247) :
    xdq v (ix2 r l) = qz (v (ix2 r l)) (kx v r) * pw (kx v r) := by
  have hb := kOf_bounds h
  rw [xdq_apply, xq_eq v r l h, xexp_eq v r l h, scl_word _ (by unfold kx; omega), ofBits_f32 _ (by unfold kx; omega) (by unfold kx; omega)]

end Cert.KernelIdeal.Block
-- ==== Proof.Step.lean ====
module

public import proofs.«01_k».proof.Proof.Block

@[expose] public section

set_option maxRecDepth 16384

noncomputable section

namespace Cert.KernelIdeal.Block

open Idealize.ShloMosaic Idealize.ShloMosaic.TcCoe Idealize.SL.Sem
open Cert.KernelIdeal Cert.KernelIdeal.Gen Cert.KernelIdeal.Words Cert.Exponent

/-! What one grid point leaves in each of its buffers, from the blocks of its two windows. -/

variable (blk : ℕ → ℕ → Vec Ideal S128x128 .bf16) (v : ℕ → Vec Ideal S160x128 .bf16)
variable (arg8 : Memref sig .tc .vmem S160x4096 .f32) (harg8 : arg8.IsWhole)
variable (arg9 : Memref sig .tc .vmem S8x72x128 .f32) (arg10 : Memref sig .tc .vmem S8x8x128 .i32)
  (arg11 : Memref sig .tc .vmem S8x8x128 .i32)
variable (arg12 : Memref sig .tc .vmem S160x128 .i32)
variable (arg13 : Memref sig .tc .vmem S32x128 .i32) (harg13 : arg13.IsWhole)
variable (xs0 : Vec Ideal S160x4096 .f32) (xs5 : Vec Ideal S32x128 .i32)

/-- A row block scaled back. -/
def xv (r : Fin 160) (k : Fin 256) : EReal :=
  qz (v (k.val / 128) (ix2 r (⟨k.val % 128, by omega⟩ : Fin 128))) (kx (v (k.val / 128)) r) * pw (kx (v (k.val / 128)) r)
/-- The window of the weight scaled back. -/
def wv (k : Fin 256) (C : Fin 4096) : EReal :=
  qz (blk (k.val / 128) (C.val / 128) (ix2 (⟨k.val % 128, by omega⟩ : Fin 128) (⟨C.val % 128, by omega⟩ : Fin 128)))
    (kw (blk (k.val / 128) (C.val / 128))) * pw (kw (blk (k.val / 128) (C.val / 128)))

theorem xd_apply (hx : ∀ kb r, rm (v kb) r * cst < pw 247) (r : Fin 160) (k : Fin 256) : xd v (ix2 r k) = xv v r k := by
  pointwise [xd]
  unfold xv
  split_ifs with hk h1
  · rw [xdq_eq _ _ _ (hx 0 r)]
    have e : k.val / 128 = 0 := by omega
    have e' : (⟨k.val % 128, by omega⟩ : Fin 128) = ⟨k.val, hk⟩ := Fin.ext (by show k.val % 128 = k.val; omega)
    rw [e, e']
  · rw [xdq_eq _ _ _ (hx 1 r)]
    have e : k.val / 128 = 1 := by omega
    have e' : (⟨k.val % 128, by omega⟩ : Fin 128) = ⟨k.val - 128, by omega⟩ := Fin.ext (by show k.val % 128 = k.val - 128; omega)
    rw [e, e']
  · exact absurd rfl h1

theorem wdt_apply (h : ∀ kb nb, bm (blk kb nb) * cst < pw 247) (kb nt : ℕ) (hk : kb < 2) (hn : nt < 16) (r : Fin 128) (c : Fin 256) :
    wdt blk arg9 arg10 arg11 kb nt (ix2 r c) = wv blk (⟨128 * kb + r.val, by omega⟩ : Fin 256) (⟨256 * nt + c.val, by omega⟩ : Fin 4096) := by
  have e1 : (128 * kb + r.val) / 128 = kb := by omega
  have e2 : (⟨(128 * kb + r.val) % 128, by omega⟩ : Fin 128) = r := Fin.ext (by show (128 * kb + r.val) % 128 = r.val; omega)
  pointwise [wdt, k0_pay288]
  unfold wv
  dsimp only
  rw [e1, e2]
  split_ifs with hc h1
  · rw [wdq_apply blk arg9 arg10 arg11 h _ _ hk (by omega)]
    have e3 : (256 * nt + c.val) / 128 = nt * 2 := by omega
    have e4 : (⟨(256 * nt + c.val) % 128, by omega⟩ : Fin 128) = ⟨c.val, hc⟩ := Fin.ext (by show (256 * nt + c.val) % 128 = c.val; omega)
    rw [e3, e4]
  · rw [wdq_apply blk arg9 arg10 arg11 h _ _ hk (by omega)]
    have e3 : (256 * nt + c.val) / 128 = nt * 2 + 1 := by omega
    have e4 : (⟨(256 * nt + c.val) % 128, by omega⟩ : Fin 128) = ⟨c.val - 128, by omega⟩ := Fin.ext (by show (256 * nt + c.val) % 128 = c.val - 128; omega)
    rw [e3, e4]
  · exact absurd rfl h1

theorem pay1_apply (x : FVec Ideal S160x256 .bf16) (a b : FVec Ideal S128x256 .bf16) (old : Vec Ideal S160x256 .f32) (r : Fin 160) (c : Fin 256) :
    k0_pay1 x a b old (ix2 r c) = old (ix2 r c) + ∑ k : Fin 256, x (ix2 r k) *
      (if h : k.val < 128 then a (ix2 (⟨k.val, h⟩ : Fin 128) c) else b (ix2 (⟨k.val - 128, by omega⟩ : Fin 128) c)) := by
  pointwise [k0_pay1]

/-- What one tile's product adds. -/
theorem tile_apply (h : ∀ kb nb, bm (blk kb nb) * cst < pw 247) (hx : ∀ kb r, rm (v kb) r * cst < pw 247) (n : ℕ) (hn : n < 16)
    (old : Vec Ideal S160x256 .f32) (r : Fin 160) (c : Fin 256) :
    k0_pay1 (xd v) (wdt blk arg9 arg10 arg11 0 n) (wdt blk arg9 arg10 arg11 1 n) old (ix2 r c)
      = old (ix2 r c) + ∑ k : Fin 256, xv v r k * wv blk k (⟨256 * n + c.val, by omega⟩ : Fin 4096) := by
  rw [pay1_apply]
  refine congrArg (fun z => old (ix2 r c) + z) (Finset.sum_congr rfl fun k _ => ?_)
  rw [xd_apply v hx]
  refine congrArg (fun z => xv v r k * z) ?_
  split_ifs with hk
  · rw [wdt_apply blk arg9 arg10 arg11 h 0 n (by omega) hn]
    exact congrArg (fun k => wv blk k _) (Fin.ext (by show 128 * 0 + k.val = k.val; omega))
  · rw [wdt_apply blk arg9 arg10 arg11 h 1 n (by omega) hn]
    exact congrArg (fun k => wv blk k _) (Fin.ext (by show 128 * 1 + (k.val - 128) = k.val; omega))

/-! ### The quantised blocks -/

/-- The window of the weight, quantised. -/
theorem wq_canon (h : ∀ kb nb, bm (blk kb nb) * cst < pw 247) (R : Fin 256) (C : Fin 4096) :
    View.canon (wqList blk arg9 arg10 64) (ix2 R C)
      = qz (blk (R.val / 128) (C.val / 128) (ix2 (⟨R.val % 128, by omega⟩ : Fin 128) (⟨C.val % 128, by omega⟩ : Fin 128)))
        (kw (blk (R.val / 128) (C.val / 128))) := by
  have hm := fun p => mem_rec (wqList blk arg9 arg10) (fun n => ⟨rW (n / 2 % 2) (n / 4 * 2 + n % 2), wq blk arg9 arg10 (n / 2 % 2) (n / 4 * 2 + n % 2)⟩) (fun _ => rfl) p 64
  refine View.canon_apply_of_pieces (Val := Elt Ideal) (e := .fp8e4m3) (fun y : S256x4096.Idx =>
    qz (blk ((y 0).val / 128) ((y 1).val / 128) (ix2 (⟨(y 0).val % 128, by omega⟩ : Fin 128) (⟨(y 1).val % 128, by omega⟩ : Fin 128)))
        (kw (blk ((y 0).val / 128) ((y 1).val / 128)))) _ ?_ _ ?_
  · intro p hp
    rcases (hm p).1 hp with hh | ⟨n, hn, rfl⟩
    · exact absurd hh List.not_mem_nil
    · intro x
      have hx0 : (x 0).val < 128 := (x 0).isLt
      have hx1 : (x 1).val < 128 := (x 1).isLt
      obtain ⟨kb, hkb⟩ : ∃ kb, kb = n / 2 % 2 := ⟨_, rfl⟩
      obtain ⟨nb, hnb⟩ : ∃ nb, nb = n / 4 * 2 + n % 2 := ⟨_, rfl⟩
      have hx' : x = ix2 (⟨(x 0).val, hx0⟩ : Fin 128) (⟨(x 1).val, hx1⟩ : Fin 128) := eq_ix2 x
      have e0 : (kb % 2 * 128 + 1 * (x 0).val) / 128 = kb := by omega
      have e1 : (nb % 32 * 128 + 1 * (x 1).val) / 128 = nb := by omega
      show wq blk arg9 arg10 (n / 2 % 2) (n / 4 * 2 + n % 2) x = _
      rw [← hkb, ← hnb, hx', wq_apply blk arg9 arg10 h kb nb (by omega) (by omega), ← hx']
      show _ = qz (blk ((kb % 2 * 128 + 1 * (x 0).val) / 128) ((nb % 32 * 128 + 1 * (x 1).val) / 128)
        (ix2 (⟨(kb % 2 * 128 + 1 * (x 0).val) % 128, _⟩ : Fin 128) (⟨(nb % 32 * 128 + 1 * (x 1).val) % 128, _⟩ : Fin 128)))
        (kw (blk ((kb % 2 * 128 + 1 * (x 0).val) / 128) ((nb % 32 * 128 + 1 * (x 1).val) / 128)))
      rw [e0, e1]
      refine congrArg (fun j => qz (blk kb nb j) _) ?_
      rw [hx']
      funext a; apply Fin.ext; fin_cases a
      · show (x 0).val = (kb % 2 * 128 + 1 * (x 0).val) % 128; omega
      · show (x 1).val = (nb % 32 * 128 + 1 * (x 1).val) % 128; omega
  · refine ⟨_, (hm _).2 (Or.inr ⟨C.val / 256 * 4 + R.val / 128 * 2 + C.val / 128 % 2, by omega, rfl⟩), ?_⟩
    rw [Rect.mem_set_unit]
    intro a
    fin_cases a
    · show (C.val / 256 * 4 + R.val / 128 * 2 + C.val / 128 % 2) / 2 % 2 % 2 * 128 ≤ R.val ∧ R.val < (C.val / 256 * 4 + R.val / 128 * 2 + C.val / 128 % 2) / 2 % 2 % 2 * 128 + 128
      omega
    · show ((C.val / 256 * 4 + R.val / 128 * 2 + C.val / 128 % 2) / 4 * 2 + (C.val / 256 * 4 + R.val / 128 * 2 + C.val / 128 % 2) % 2) % 32 * 128 ≤ C.val
        ∧ C.val < ((C.val / 256 * 4 + R.val / 128 * 2 + C.val / 128 % 2) / 4 * 2 + (C.val / 256 * 4 + R.val / 128 * 2 + C.val / 128 % 2) % 2) % 32 * 128 + 128
      omega

/-- The window of the rows, quantised. -/
theorem xq_canon (hx : ∀ kb r, rm (v kb) r * cst < pw 247) (r : Fin 160) (C : Fin 256) :
    View.canon (xqList v) (ix2 r C)
      = qz (v (C.val / 128) (ix2 r (⟨C.val % 128, by omega⟩ : Fin 128))) (kx (v (C.val / 128)) r) := by
  have key : ∀ kb < 2, ∀ x : S160x128.Idx, xq (v kb) x = (fun y : S160x256.Idx =>
      qz (v ((y 1).val / 128) (ix2 (y 0) (⟨(y 1).val % 128, by omega⟩ : Fin 128))) (kx (v ((y 1).val / 128)) (y 0))) ((rX kb).emb x) := by
    intro kb hkb x
    obtain ⟨r, l, rfl⟩ : ∃ (r : Fin 160) (l : Fin 128), x = ix2 r l := ⟨x 0, x 1, eq_ix2 x⟩
    rw [xq_eq _ _ _ (hx kb _)]
    have e0 : ((rX kb).emb (ix2 r l)) 0 = r := Fin.ext (by show 0 + 1 * r.val = r.val; omega)
    show _ = qz (v ((kb % 2 * 128 + 1 * l.val) / 128) (ix2 (((rX kb).emb (ix2 r l)) 0) (⟨(kb % 2 * 128 + 1 * l.val) % 128, _⟩ : Fin 128))) (kx (v ((kb % 2 * 128 + 1 * l.val) / 128)) (((rX kb).emb (ix2 r l)) 0))
    rw [show (kb % 2 * 128 + 1 * l.val) / 128 = kb by omega, e0]
    exact congrArg (fun j => qz (v kb (ix2 r j)) _) (Fin.ext (by show l.val = (kb % 2 * 128 + 1 * l.val) % 128; omega))
  refine View.canon_apply_of_pieces (Val := Elt Ideal) (e := .fp8e4m3) (fun y : S160x256.Idx =>
      qz (v ((y 1).val / 128) (ix2 (y 0) (⟨(y 1).val % 128, by omega⟩ : Fin 128))) (kx (v ((y 1).val / 128)) (y 0))) _ ?_ _ ?_
  · intro p hp
    unfold xqList at hp
    rcases List.mem_cons.1 hp with rfl | hp
    · exact key 1 (by omega)
    · rcases List.mem_cons.1 hp with rfl | hp
      · exact key 0 (by omega)
      · exact absurd hp List.not_mem_nil
  · by_cases hc : C.val < 128
    · refine ⟨_, List.mem_cons_of_mem _ List.mem_cons_self, ?_⟩
      rw [Rect.mem_set_unit]
      intro a
      fin_cases a
      · show 0 ≤ r.val ∧ r.val < 0 + 160; omega
      · show 0 % 2 * 128 ≤ C.val ∧ C.val < 0 % 2 * 128 + 128; omega
    · refine ⟨_, List.mem_cons_self, ?_⟩
      rw [Rect.mem_set_unit]
      intro a
      fin_cases a
      · show 0 ≤ r.val ∧ r.val < 0 + 160; omega
      · show 1 % 2 * 128 ≤ C.val ∧ C.val < 1 % 2 * 128 + 128; omega

/-! ### The accumulator -/

theorem acc_emb (n : ℕ) (hn : n < 16) (r : Fin 160) (c : Fin 256) :
    (rAcc n).emb (ix2 r c) = ix2 r (⟨256 * n + c.val, by omega⟩ : Fin 4096) := by
  funext a; apply Fin.ext; fin_cases a
  · show 0 + 1 * r.val = r.val; omega
  · show 256 * (n % 16) + 1 * c.val = 256 * n + c.val; omega

theorem acc_cons (n : ℕ) (hn : n < 16) (w : S160x256.Idx → Elt Ideal .f32) (L : List (View.Piece (Elt Ideal) S160x4096 .f32)) (r : Fin 160) (C : Fin 4096) :
    View.canon (⟨rAcc n, w⟩ :: L) (ix2 r C) = if C.val / 256 = n then w (ix2 r (⟨C.val % 256, by omega⟩ : Fin 256)) else View.canon L (ix2 r C) := by
  split_ifs with hc
  · have e : ix2 r C = (rAcc n).emb (ix2 r (⟨C.val % 256, by omega⟩ : Fin 256)) := by
      rw [acc_emb n hn]; exact congrArg (ix2 r) (Fin.ext (by show C.val = 256 * n + C.val % 256; omega))
    rw [e]; exact View.canon_cons_emb _ _ _ _
  · refine View.canon_cons_of_not_mem _ _ ?_
    rw [Rect.mem_set_unit]
    intro hh
    have h1 := hh 1
    have h1' : 256 * (n % 16) ≤ C.val ∧ C.val < 256 * (n % 16) + 256 := h1
    omega

/-- What a point adds to the accumulator. -/
def dot (r : Fin 160) (C : Fin 4096) : EReal := ∑ k : Fin 256, xv v r k * wv blk k C

theorem acc_canon (h : ∀ kb nb, bm (blk kb nb) * cst < pw 247) (hx : ∀ kb r, rm (v kb) r * cst < pw 247) (r : Fin 160) (C : Fin 4096) :
    ∀ n ≤ 16, C.val / 256 < n →
      View.canon (accList blk v arg8 harg8 arg9 arg10 arg11 xs0 n) (ix2 r C) = xs0 (ix2 r C) + dot blk v r C := by
  intro n
  induction n with
  | zero => intro _ h; omega
  | succ n ih =>
    intro hn hc
    show View.canon (⟨rAcc n, _⟩ :: accList blk v arg8 harg8 arg9 arg10 arg11 xs0 n) (ix2 r C) = _
    rw [acc_cons n (by omega)]
    split_ifs with he
    · have e : (⟨256 * n + C.val % 256, by omega⟩ : Fin 4096) = C := Fin.ext (by show 256 * n + C.val % 256 = C.val; omega)
      rw [tile_apply blk v arg9 arg10 arg11 h hx n (by omega)]
      dsimp only
      rw [e, View.readAt_eq_ld, harg8.read_unread]
      show xs0 ((rAcc n).emb (ix2 r (⟨C.val % 256, by omega⟩ : Fin 256))) + _ = _
      rw [acc_emb n (by omega), e]; rfl
    · exact ih (by omega) (by omega)

theorem acc0_canon (h : ∀ kb nb, bm (blk kb nb) * cst < pw 247) (hx : ∀ kb r, rm (v kb) r * cst < pw 247) (r : Fin 160) (C : Fin 4096) :
    ∀ n ≤ 16, View.canon (accList0 blk v arg8 arg9 arg10 arg11 n) (ix2 r C) = if C.val / 256 < n then dot blk v r C else 0 := by
  intro n
  induction n with
  | zero =>
    intro _
    rw [if_neg (by omega)]
    refine (congrFun (View.canon_cons_unit_lit (Val := Elt Ideal) _ _ _ (by intro a; fin_cases a <;> rfl)) _).trans ?_
    pointwise [k0_pay5]
    try simp [Ideal.ofBits, Ideal.ieee]
  | succ n ih =>
    intro hn
    show View.canon (⟨rAcc n, _⟩ :: accList0 blk v arg8 arg9 arg10 arg11 n) (ix2 r C) = _
    rw [acc_cons n (by omega)]
    split_ifs with he he' he'
    · have e : (⟨256 * n + C.val % 256, by omega⟩ : Fin 4096) = C := Fin.ext (by show 256 * n + C.val % 256 = C.val; omega)
      rw [tile_apply blk v arg9 arg10 arg11 h hx n (by omega)]
      dsimp only
      rw [e, View.readCov_eq_canon']
      show View.canon _ ((rAcc n).emb (ix2 r (⟨C.val % 256, by omega⟩ : Fin 256))) + _ = _
      rw [acc_emb n (by omega), e, ih (by omega), if_neg (by omega), zero_add]; rfl
    · omega
    · rw [ih (by omega), if_pos (by omega)]
    · rw [ih (by omega), if_neg (by omega)]

end Cert.KernelIdeal.Block
-- ==== Proof.Spec.lean ====
module

public import proofs.«01_k».proof.Proof.Step

@[expose] public section

set_option maxRecDepth 16384

noncomputable section

namespace Cert.Spec

open Idealize.ShloMosaic Idealize.ShloMosaic.TcCoe Idealize.SL.Sem
open Cert.KernelIdeal Cert.KernelIdeal.Block Cert.Exponent

/-! The five results as functions of the rows and the weight. -/

variable (X : Vec Ideal S160x11008 .bf16) (W : Vec Ideal S11008x4096 .bf16)

/-- The rows' block of 128 columns numbered `K`. -/
def Xb (K : ℕ) : Vec Ideal S160x128 .bf16 := fun j =>
  X (ix2 (⟨(j 0).val % 160, Nat.mod_lt _ (by decide)⟩ : Fin 160) (⟨(128 * K + (j 1).val) % 11008, Nat.mod_lt _ (by decide)⟩ : Fin 11008))

/-- The weight's block of 128 by 128 entries numbered `K`, `nb`. -/
def Wb (K nb : ℕ) : Vec Ideal S128x128 .bf16 := fun j =>
  W (ix2 (⟨(128 * K + (j 0).val) % 11008, Nat.mod_lt _ (by decide)⟩ : Fin 11008) (⟨(128 * nb + (j 1).val) % 4096, Nat.mod_lt _ (by decide)⟩ : Fin 4096))

/-- A code of the rows. -/
def xOut (r : Fin 160) (C : Fin 11008) : EReal := qz (X (ix2 r C)) (kx (Xb X (C.val / 128)) r)
/-- A code of the weight. -/
def wOut (R : Fin 11008) (C : Fin 4096) : EReal := qz (W (ix2 R C)) (kw (Wb W (R.val / 128) (C.val / 128)))
/-- An entry of the rows as the product reads it. -/
def xDeq (r : Fin 160) (C : Fin 11008) : EReal := xOut X r C * pw (kx (Xb X (C.val / 128)) r)
/-- An entry of the weight as the product reads it. -/
def wDeq (R : Fin 11008) (C : Fin 4096) : EReal := wOut W R C * pw (kw (Wb W (R.val / 128) (C.val / 128)))
/-- An entry of the product. -/
def yOut (r : Fin 160) (C : Fin 4096) : EReal := ∑ k : Fin 11008, xDeq X r k * wDeq W k C
/-- A stored scale of the rows. -/
def xsOut (r : Fin 160) (K : Fin 86) : BitVec 8 := (BitVec.ofNat 32 (kx (Xb X K.val) r)).setWidth 8
/-- A stored scale of the weight. -/
def wsOut (nb : Fin 32) (K : Fin 86) : BitVec 8 := (BitVec.ofNat 32 (kw (Wb W K.val nb.val))).setWidth 8

/-- No exponent of a block runs past the range of the kernel's integer power. -/
def Small : Prop := (∀ K nb, bm (Wb W K nb) * cst < pw 247) ∧ ∀ K r, rm (Xb X K) r * cst < pw 247

end Cert.Spec
-- ==== Proof.Codes.lean ====
module

public import proofs.«01_k».proof.Proof.Step

@[expose] public section

set_option maxRecDepth 16384

noncomputable section

namespace Cert.KernelIdeal.Block

open Idealize.ShloMosaic Idealize.ShloMosaic.TcCoe Idealize.SL.Sem
open Cert.KernelIdeal Cert.KernelIdeal.Gen Cert.KernelIdeal.Words Cert.Exponent

/-! The exponents one grid point enters into the two carried tables. -/

theorem col_iff (s kb l : ℕ) (hs : s < 43) (hkb : kb < 2) (hl : l < 128) :
    IntOp.cmpi .eq (BitVec.ofNat 32 l) (Scalar.addi (Scalar.muli (BitVec.ofNat 32 s) 2#32) (BitVec.ofNat 32 kb)) = BitVec.ofBool (decide (l = 2 * s + kb)) := by
  have e : Scalar.addi (Scalar.muli (BitVec.ofNat 32 s) 2#32) (BitVec.ofNat 32 kb) = BitVec.ofNat 32 (2 * s + kb) := by
    show BitVec.ofNat 32 s * 2#32 + BitVec.ofNat 32 kb = _
    apply BitVec.eq_of_toNat_eq
    simp only [BitVec.toNat_add, BitVec.toNat_mul, BitVec.toNat_ofNat]; omega
  rw [e]
  show BitVec.ofBool (BitVec.ofNat 32 l == BitVec.ofNat 32 (2 * s + kb)) = _
  refine congrArg _ ?_
  rw [Bool.eq_iff_iff, beq_iff_eq, decide_eq_true_iff, ← BitVec.toNat_inj]
  simp only [BitVec.toNat_ofNat]; omega

theorem select_bool {α : Type} (p : Prop) [Decidable p] (a b : α) : Scalar.select (BitVec.ofBool (decide p)) a b = if p then a else b := by
  by_cases h : p
  · rw [decide_eq_true h, if_pos h]; rfl
  · rw [decide_eq_false h, if_neg h]; rfl

theorem code_add (k : ℕ) : IntOp.addi (BitVec.ofNat 32 k - 127#32) 127#32 = BitVec.ofNat 32 k := BitVec.sub_add_cancel _ _

theorem wseUpd_apply (s kb : ℕ) (hs : s < 43) (hkb : kb < 2) (e old : IVec S8x128 32) (r : Fin 8) (l : Fin 128) :
    wseUpd (BitVec.ofNat 32 s) kb e old (ix2 r l) = if l.val = 2 * s + kb then IntOp.addi (e (ix2 r l)) 127#32 else old (ix2 r l) := by
  rw [← select_bool, ← col_iff s kb l.val hs hkb l.isLt]
  pointwise [wseUpd]

theorem xseUpd_apply (s kb : ℕ) (hs : s < 43) (hkb : kb < 2) (e old : IVec S160x128 32) (r : Fin 160) (l : Fin 128) :
    xseUpd (BitVec.ofNat 32 s) kb e old (ix2 r l) = if l.val = 2 * s + kb then IntOp.addi (e (ix2 r l)) 127#32 else old (ix2 r l) := by
  rw [← select_bool, ← col_iff s kb l.val hs hkb l.isLt]
  pointwise [xseUpd]

variable (blk : ℕ → ℕ → Vec Ideal S128x128 .bf16) (v : ℕ → Vec Ideal S160x128 .bf16)
variable (arg9 : Memref sig .tc .vmem S8x72x128 .f32)
variable (arg12 : Memref sig .tc .vmem S160x128 .i32)
variable (arg13 : Memref sig .tc .vmem S32x128 .i32) (harg13 : arg13.IsWhole)
variable (xs5 : Vec Ideal S32x128 .i32) (s : ℕ) (hs : s < 43)

theorem ws_emb (n : ℕ) (r : Fin 8) (l : Fin 128) :
    (rWs n).emb (ix2 r l) = ix2 (⟨8 * (n % 4) + r.val, by omega⟩ : Fin 32) l := by
  funext a; apply Fin.ext; fin_cases a
  · show 8 * (n % 4) + 1 * r.val = 8 * (n % 4) + r.val; omega
  · show 0 + 1 * l.val = l.val; omega

theorem ws_cons (n : ℕ) (w : S8x128.Idx → Elt Ideal .i32) (L : List (View.Piece (Elt Ideal) S32x128 .i32)) (R : Fin 32) (l : Fin 128) :
    View.canon (⟨rWs n, w⟩ :: L) (ix2 R l) = if R.val / 8 = n % 4 then w (ix2 (⟨R.val % 8, by omega⟩ : Fin 8) l) else View.canon L (ix2 R l) := by
  split_ifs with hc
  · have e : ix2 R l = (rWs n).emb (ix2 (⟨R.val % 8, by omega⟩ : Fin 8) l) := by
      rw [ws_emb n]; exact congrArg (fun R => ix2 R l) (Fin.ext (by show R.val = 8 * (n % 4) + R.val % 8; omega))
    rw [e]; exact View.canon_cons_emb _ _ _ _
  · refine View.canon_cons_of_not_mem _ _ ?_
    rw [Rect.mem_set_unit]
    intro hh
    have h1 := hh 0
    have h1' : 8 * (n % 4) ≤ R.val ∧ R.val < 8 * (n % 4) + 8 := h1
    omega

/-- The table of the weight's exponents after `n` groups over `old`. -/
def wsAt (old : Fin 32 → Fin 128 → BitVec 32) (n : ℕ) (R : Fin 32) (l : Fin 128) : BitVec 32 :=
  if 4 + R.val / 8 < n ∧ l.val = 2 * s + 1 then BitVec.ofNat 32 (kw (blk 1 R.val))
  else if R.val / 8 < n ∧ l.val = 2 * s then BitVec.ofNat 32 (kw (blk 0 R.val)) else old R l

include hs in
theorem ws_step (h : ∀ kb nb, bm (blk kb nb) * cst < pw 247) (old : Fin 32 → Fin 128 → BitVec 32) (n : ℕ) (hn : n < 8) (o : IVec S8x128 32)
    (R : Fin 32) (l : Fin 128) (hR : R.val / 8 = n % 4) (ho : o (ix2 (⟨R.val % 8, by omega⟩ : Fin 8) l) = wsAt blk s old n R l) :
    wseUpd (BitVec.ofNat 32 s) (n / 4) (wexp blk arg9 n) o (ix2 (⟨R.val % 8, by omega⟩ : Fin 8) l) = wsAt blk s old (n + 1) R l := by
  rw [wseUpd_apply s (n / 4) hs (by omega), wexp_eq blk arg9 h n (R.val % 8) hn (by omega), code_add, ho]
  have e1 : (8 * n + R.val % 8) / 32 = n / 4 := by omega
  have e2 : (8 * n + R.val % 8) % 32 = R.val := by omega
  rw [e1, e2]
  unfold wsAt
  rcases Nat.lt_or_ge n 4 with h4 | h4
  · have e3 : n / 4 = 0 := by omega
    rw [e3]
    split_ifs <;> first | rfl | (exfalso; omega)
  · have e3 : n / 4 = 1 := by omega
    rw [e3]
    split_ifs <;> first | rfl | (exfalso; omega)

include hs in
theorem wse0_canon (h : ∀ kb nb, bm (blk kb nb) * cst < pw 247) (R : Fin 32) (l : Fin 128) : ∀ n ≤ 8,
    View.canon (wseList0 blk (BitVec.ofNat 32 s) arg9 arg13 n) (ix2 R l) = wsAt blk s (fun _ _ => 0#32) n R l := by
  intro n
  induction n with
  | zero =>
    intro _
    refine (congrFun (View.canon_cons_unit_lit (Val := Elt Ideal) _ _ _ (by intro a; fin_cases a <;> rfl)) _).trans ?_
    unfold wsAt
    rw [if_neg (by omega), if_neg (by omega)]
    pointwise [k0_pay7]
  | succ n ih =>
    intro hn
    show View.canon (⟨rWs n, _⟩ :: wseList0 blk (BitVec.ofNat 32 s) arg9 arg13 n) (ix2 R l) = _
    rw [ws_cons n]
    split_ifs with he
    · refine ws_step blk arg9 s hs h _ n (by omega) _ R l he ?_
      rw [View.readCov_eq_canon']
      show View.canon _ ((rWs n).emb (ix2 (⟨R.val % 8, by omega⟩ : Fin 8) l)) = _
      have e : (⟨8 * (n % 4) + R.val % 8, by omega⟩ : Fin 32) = R := Fin.ext (by show 8 * (n % 4) + R.val % 8 = R.val; omega)
      rw [ws_emb n]
      dsimp only
      rw [e, ih (by omega)]
    · rw [ih (by omega)]
      unfold wsAt
      exact if_congr (by omega) rfl (if_congr (by omega) rfl rfl)

include hs in
theorem wse_canon (h : ∀ kb nb, bm (blk kb nb) * cst < pw 247) (R : Fin 32) (l : Fin 128) : ∀ n ≤ 8, R.val / 8 < n →
    View.canon (wseList blk (BitVec.ofNat 32 s) arg9 arg13 harg13 xs5 n) (ix2 R l) = wsAt blk s (fun R l => xs5 (ix2 R l)) n R l := by
  intro n
  induction n with
  | zero => intro _ h; omega
  | succ n ih =>
    intro hn hR
    show View.canon (⟨rWs n, _⟩ :: wseList blk (BitVec.ofNat 32 s) arg9 arg13 harg13 xs5 n) (ix2 R l) = _
    rw [ws_cons n]
    by_cases he : R.val / 8 = n % 4
    · rw [if_pos he]
      refine ws_step blk arg9 s hs h _ n (by omega) _ R l he ?_
      have e : (⟨8 * (n % 4) + R.val % 8, by omega⟩ : Fin 32) = R := Fin.ext (by show 8 * (n % 4) + R.val % 8 = R.val; omega)
      by_cases h4 : n < 4
      · rw [if_pos h4, View.readAt_eq_ld, harg13.read_unread]
        show xs5 ((rWs n).emb (ix2 (⟨R.val % 8, by omega⟩ : Fin 8) l)) = _
        rw [ws_emb n]
        dsimp only
        rw [e]
        unfold wsAt
        rw [if_neg (by omega), if_neg (by omega)]
      · rw [if_neg h4, View.readCov_eq_canon']
        show View.canon _ ((rWs n).emb (ix2 (⟨R.val % 8, by omega⟩ : Fin 8) l)) = _
        rw [ws_emb n]
        dsimp only
        rw [e, ih (by omega) (by omega)]
    · rw [if_neg he, ih (by omega) (by omega)]
      unfold wsAt
      exact if_congr (by omega) rfl (if_congr (by omega) rfl rfl)

/-- The table of the rows' exponents after a point over `old`. -/
def xsAt (old : Fin 160 → Fin 128 → BitVec 32) (r : Fin 160) (l : Fin 128) : BitVec 32 :=
  if l.val = 2 * s + 1 then BitVec.ofNat 32 (kx (v 1) r) else if l.val = 2 * s then BitVec.ofNat 32 (kx (v 0) r) else old r l

include hs in
theorem xse_canon (hx : ∀ kb r, rm (v kb) r * cst < pw 247) (old : IVec S160x128 32) (base : List (View.Piece (Elt Ideal) S160x128 .i32))
    (r : Fin 160) (l : Fin 128) :
    View.canon (xseList v (BitVec.ofNat 32 s) arg12 old base) (ix2 r l) = xsAt v s (fun r l => old (ix2 r l)) r l := by
  have hz : ∀ a, (![0, 0] : Fin 2 → ℕ) a = 0 := by intro a; fin_cases a <;> rfl
  refine (congrFun (View.canon_cons_unit_lit (Val := Elt Ideal) _ _ _ hz) _).trans ?_
  rw [xseUpd_apply s 1 hs (by omega), xexp_eq _ _ _ (hx 1 r), code_add]
  unfold xsAt
  refine if_congr Iff.rfl rfl ?_
  have e : rXs.emb (ix2 r l) = ix2 r l := by
    funext a; apply Fin.ext; fin_cases a
    · show 0 + 1 * r.val = r.val; omega
    · show 0 + 1 * l.val = l.val; omega
  rw [View.readCov_eq_canon']
  show View.canon _ (rXs.emb (ix2 r l)) = _
  rw [e]
  refine (congrFun (View.canon_cons_unit_lit (Val := Elt Ideal) _ _ _ hz) _).trans ?_
  rw [xseUpd_apply s 0 hs (by omega), xexp_eq _ _ _ (hx 0 r), code_add]
  rfl

end Cert.KernelIdeal.Block
-- ==== Proof.Points.lean ====
module

public import proofs.«01_k».proof.Proof.Codes
public import proofs.«01_k».proof.Proof.Gen.KernelIdeal.Value

@[expose] public section

set_option maxRecDepth 16384

noncomputable section

namespace Cert.KernelIdeal.Points

open Idealize.ShloMosaic Idealize.ShloMosaic.TcCoe Idealize.SL.Sem
open Idealize.ShloMosaic.Pipeline (Dat)
open Cert.KernelIdeal Cert.KernelIdeal.Gen Cert.KernelIdeal.Value Cert.KernelIdeal.Words Cert.KernelIdeal.Block Cert.Exponent

/-! What each grid point leaves, read off the frame's terms. -/

/-- What the outputs and the carried scratch hold. -/
abbrev St := Vec Ideal S160x4096 .bf16 × Vec Ideal S160x256 .fp8e4m3 × Vec Ideal S160x86 .i8 × Vec Ideal S256x4096 .fp8e4m3 × Vec Ideal S32x86 .i8
  × Vec Ideal S160x4096 .f32 × Vec Ideal S160x128 .i32 × Vec Ideal S32x128 .i32

variable (m : (ls : Loc nD τ sig) → Buf (Elt Ideal) ls) (c : Dev nD) (t : Fin cfg0.N) (acc : St)

/-- The blocks of the weight's window at a point. -/
def wb : ℕ → ℕ → Vec Ideal S128x128 .bf16 := wblk (ms0_1 t) (hs0_1 t) (iblk m c 1 t)
/-- The blocks of the rows' window at a point. -/
def xb : ℕ → Vec Ideal S160x128 .bf16 := xblk (ms0_0 t) (hs0_0 t) (iblk m c 0 t)

theorem coord_eq : ∀ t : Fin grid0.N, (grid0.coords t 0).val = t.val := by decide +kernel

theorem step_eq : stepW (grid0.coords t) = BitVec.ofNat 32 t.val := by
  unfold stepW; rw [coord_eq t]

theorem t_lt (t : Fin cfg0.N) : t.val < 43 := lt_of_lt_of_eq t.isLt (show cfg0.N = 43 from N_0)

section
variable (h : ∀ kb nb, bm (wb m c t kb nb) * cst < pw 247) (hx : ∀ kb r, rm (xb m c t kb) r * cst < pw 247)

include hx in
/-- The rows' window after a point. -/
theorem xq_pt (r : Fin 160) (C : Fin 256) : (stAt0 m c t.val t.isLt acc).2.1 (ix2 r C)
    = qz (xb m c t (C.val / 128) (ix2 r (⟨C.val % 128, by omega⟩ : Fin 128))) (kx (xb m c t (C.val / 128)) r) := by
  have ht := t_lt t
  by_cases h0 : t.val % 43 = 0
  · rw [stAt0_A m c t acc h0 (by omega)]; dsimp only; unfold out0_A_3
    rw [View.read_writes_junk_apply_eq_canon, xq_A]; exact xq_canon _ hx r C
  · by_cases h1 : t.val % 43 = 42
    · rw [stAt0_C m c t acc h0 h1]; dsimp only; unfold out0_C_3
      rw [View.read_writes_junk_apply_eq_canon, xq_C]; exact xq_canon _ hx r C
    · rw [stAt0_B m c t acc h0 h1]; dsimp only; unfold out0_B_3
      rw [View.read_writes_junk_apply_eq_canon, xq_B]; exact xq_canon _ hx r C

include h in
/-- The weight's window after a point. -/
theorem wq_pt (R : Fin 256) (C : Fin 4096) : (stAt0 m c t.val t.isLt acc).2.2.2.1 (ix2 R C)
    = qz (wb m c t (R.val / 128) (C.val / 128) (ix2 (⟨R.val % 128, by omega⟩ : Fin 128) (⟨C.val % 128, by omega⟩ : Fin 128)))
        (kw (wb m c t (R.val / 128) (C.val / 128))) := by
  have ht := t_lt t
  by_cases h0 : t.val % 43 = 0
  · rw [stAt0_A m c t acc h0 (by omega)]; dsimp only; unfold out0_A_5
    rw [View.read_writes_junk_apply_eq_canon, wq_A]; exact wq_canon _ _ _ h R C
  · by_cases h1 : t.val % 43 = 42
    · rw [stAt0_C m c t acc h0 h1]; dsimp only; unfold out0_C_5
      rw [View.read_writes_junk_apply_eq_canon, wq_C]; exact wq_canon _ _ _ h R C
    · rw [stAt0_B m c t acc h0 h1]; dsimp only; unfold out0_B_5
      rw [View.read_writes_junk_apply_eq_canon, wq_B]; exact wq_canon _ _ _ h R C

include h hx in
/-- The accumulator after a point. -/
theorem acc_pt (r : Fin 160) (C : Fin 4096) : (stAt0 m c t.val t.isLt acc).2.2.2.2.2.1 (ix2 r C)
    = (if t.val = 0 then 0 else acc.2.2.2.2.2.1 (ix2 r C)) + dot (wb m c t) (xb m c t) r C := by
  have ht := t_lt t
  by_cases h0 : t.val % 43 = 0
  · rw [stAt0_A m c t acc h0 (by omega), if_pos (by omega), zero_add]; dsimp only; unfold sout0_A_0
    rw [View.read_writes_junk_apply_eq_canon, acc_A]
    exact (acc0_canon _ _ _ _ _ _ h hx r C 16 le_rfl).trans (if_pos (by omega))
  · rw [if_neg (by omega)]
    by_cases h1 : t.val % 43 = 42
    · rw [stAt0_C m c t acc h0 h1]; dsimp only; unfold sout0_C_0
      rw [View.read_writes_junk_apply_eq_canon, acc_C]; exact acc_canon _ _ _ _ _ _ _ _ h hx r C 16 le_rfl (by omega)
    · rw [stAt0_B m c t acc h0 h1]; dsimp only; unfold sout0_B_0
      rw [View.read_writes_junk_apply_eq_canon, acc_B]; exact acc_canon _ _ _ _ _ _ _ _ h hx r C 16 le_rfl (by omega)

include hx in
/-- The rows' exponents after a point. -/
theorem xse_pt (r : Fin 160) (l : Fin 128) : (stAt0 m c t.val t.isLt acc).2.2.2.2.2.2.1 (ix2 r l)
    = xsAt (xb m c t) t.val (fun r l => if t.val = 0 then 0#32 else acc.2.2.2.2.2.2.1 (ix2 r l)) r l := by
  have ht := t_lt t
  have e : rXs.emb (ix2 r l) = ix2 r l := by
    funext a; apply Fin.ext; fin_cases a
    · show 0 + 1 * r.val = r.val; omega
    · show 0 + 1 * l.val = l.val; omega
  by_cases h0 : t.val % 43 = 0
  · rw [stAt0_A m c t acc h0 (by omega)]; dsimp only; unfold sout0_A_4
    rw [View.read_writes_junk_apply_eq_canon, xse_A, step_eq]
    refine (xse_canon _ _ _ ht hx _ _ r l).trans ?_
    unfold xsAt
    refine if_congr Iff.rfl rfl (if_congr Iff.rfl rfl ?_)
    dsimp only
    rw [if_pos (by omega), View.readCov_eq_canon']
    show View.canon _ (rXs.emb (ix2 r l)) = _
    rw [e]
    refine (congrFun (View.canon_cons_unit_lit (Val := Elt Ideal) _ _ _ (by intro a; fin_cases a <;> rfl)) _).trans ?_
    pointwise [k0_pay6]
  · by_cases h1 : t.val % 43 = 42
    · rw [stAt0_C m c t acc h0 h1]; dsimp only; unfold sout0_C_4
      rw [View.read_writes_junk_apply_eq_canon, xse_C, step_eq]
      refine (xse_canon _ _ _ ht hx _ _ r l).trans ?_
      unfold xsAt
      refine if_congr Iff.rfl rfl (if_congr Iff.rfl rfl ?_)
      dsimp only
      rw [if_neg (by omega), View.readAt_eq_ld, (Memref.isWhole_whole _).read_unread]
      show acc.2.2.2.2.2.2.1 (rXs.emb (ix2 r l)) = _
      rw [e]
    · rw [stAt0_B m c t acc h0 h1]; dsimp only; unfold sout0_B_4
      rw [View.read_writes_junk_apply_eq_canon, xse_B, step_eq]
      refine (xse_canon _ _ _ ht hx _ _ r l).trans ?_
      unfold xsAt
      refine if_congr Iff.rfl rfl (if_congr Iff.rfl rfl ?_)
      dsimp only
      rw [if_neg (by omega), View.readAt_eq_ld, (Memref.isWhole_whole _).read_unread]
      show acc.2.2.2.2.2.2.1 (rXs.emb (ix2 r l)) = _
      rw [e]

include h in
/-- The weight's exponents after a point. -/
theorem wse_pt (R : Fin 32) (l : Fin 128) : (stAt0 m c t.val t.isLt acc).2.2.2.2.2.2.2 (ix2 R l)
    = wsAt (wb m c t) t.val (fun R l => if t.val = 0 then 0#32 else acc.2.2.2.2.2.2.2 (ix2 R l)) 8 R l := by
  have ht := t_lt t
  by_cases h0 : t.val % 43 = 0
  · rw [stAt0_A m c t acc h0 (by omega)]; dsimp only; unfold sout0_A_5
    rw [View.read_writes_junk_apply_eq_canon, wse_A, step_eq]
    refine (wse0_canon _ _ _ _ ht h R l 8 le_rfl).trans ?_
    rw [show t.val = 0 by omega]; rfl
  · by_cases h1 : t.val % 43 = 42
    · rw [stAt0_C m c t acc h0 h1]; dsimp only; unfold sout0_C_5
      rw [View.read_writes_junk_apply_eq_canon, wse_C, step_eq]
      refine (wse_canon _ _ _ _ _ _ ht h R l 8 le_rfl (by omega)).trans ?_
      simp only [if_neg (show ¬ t.val = 0 by omega)]
    · rw [stAt0_B m c t acc h0 h1]; dsimp only; unfold sout0_B_5
      rw [View.read_writes_junk_apply_eq_canon, wse_B, step_eq]
      refine (wse_canon _ _ _ _ _ _ ht h R l 8 le_rfl (by omega)).trans ?_
      simp only [if_neg (show ¬ t.val = 0 by omega)]
end

end Cert.KernelIdeal.Points
-- ==== Proof.Arrays.lean ====
module

public import proofs.«01_k».proof.Proof.Spec
public import proofs.«01_k».proof.Proof.Points

@[expose] public section

set_option maxRecDepth 16384

noncomputable section

namespace Cert.KernelIdeal.Points

open Idealize.ShloMosaic Idealize.ShloMosaic.TcCoe Idealize.SL.Sem
open Idealize.ShloMosaic.Pipeline (Dat)
open Cert.KernelIdeal Cert.KernelIdeal.Gen Cert.KernelIdeal.Value Cert.KernelIdeal.Words Cert.KernelIdeal.Block Cert.Exponent Cert.Spec

/-! The blocks a grid point reads, as pieces of the arrays. -/

variable (m : (ls : Loc nD τ sig) → Buf (Elt Ideal) ls) (c : Dev nD) (t : Fin cfg0.N)

/-- The rows' array, as the grid finds it. -/
def xArr : Vec Ideal S160x11008 .bf16 := V m c main_v0
/-- The weight's array, as the grid finds it. -/
def wArr : Vec Ideal S11008x4096 .bf16 := V m c main_arg1

theorem index_x : ∀ t : Fin cfg0.N, win0_0.index t 0 = 0 ∧ win0_0.index t 1 = t.val := (by decide +kernel : ∀ t : Fin grid0.N, _)
theorem index_w : ∀ t : Fin cfg0.N, win0_1.index t 0 = t.val ∧ win0_1.index t 1 = 0 := (by decide +kernel : ∀ t : Fin grid0.N, _)

/-- A block of the weight's window is a block of the weight. -/
theorem wb_eq (kb nb : ℕ) : wb m c t kb nb = Wb (wArr m c) (2 * t.val + kb % 2) (nb % 32) := by
  have ht := t_lt t
  obtain ⟨i0, i1⟩ := index_w t
  unfold wb wblk
  rw [View.readAt_eq_ld, (hs0_1 t).read_unread]
  funext j
  have hj0 : (j 0).val < 128 := (j 0).isLt
  have hj1 : (j 1).val < 128 := (j 1).isLt
  unfold iblk Wb wArr
  rw [View.ld_apply, View.read_apply]
  show V m c main_arg1 _ = V m c main_arg1 _
  congr 1
  funext a; apply Fin.ext; fin_cases a
  · show win0_1.index t 0 * 256 + 1 * (kb % 2 * 128 + 1 * (j 0).val) = (128 * (2 * t.val + kb % 2) + (j 0).val) % 11008
    rw [i0]; omega
  · show win0_1.index t 1 * 4096 + 1 * (nb % 32 * 128 + 1 * (j 1).val) = (128 * (nb % 32) + (j 1).val) % 4096
    rw [i1]; omega

/-- A block of the rows' window is a block of the rows. -/
theorem xb_eq (kb : ℕ) : xb m c t kb = Xb (xArr m c) (2 * t.val + kb % 2) := by
  have ht := t_lt t
  obtain ⟨i0, i1⟩ := index_x t
  unfold xb xblk
  rw [View.readAt_eq_ld, (hs0_0 t).read_unread]
  funext j
  have hj0 : (j 0).val < 160 := (j 0).isLt
  have hj1 : (j 1).val < 128 := (j 1).isLt
  unfold iblk Xb xArr
  rw [View.ld_apply, View.read_apply]
  show V m c main_v0 _ = V m c main_v0 _
  congr 1
  funext a; apply Fin.ext; fin_cases a
  · show win0_0.index t 0 * 160 + 1 * (0 + 1 * (j 0).val) = (j 0).val % 160
    rw [i0]; omega
  · show win0_0.index t 1 * 256 + 1 * (kb % 2 * 128 + 1 * (j 1).val) = (128 * (2 * t.val + kb % 2) + (j 1).val) % 11008
    rw [i1]; omega

section
variable (X : Vec Ideal S160x11008 .bf16) (W : Vec Ideal S11008x4096 .bf16)

/-- The part of an entry of the product that one grid point adds. -/
def term (r : Fin 160) (C : Fin 4096) (s : ℕ) : EReal :=
  ∑ k : Fin 256, xDeq X r (⟨(256 * s + k.val) % 11008, Nat.mod_lt _ (by decide)⟩ : Fin 11008)
    * wDeq W (⟨(256 * s + k.val) % 11008, Nat.mod_lt _ (by decide)⟩ : Fin 11008) C

/-- A block's entry and exponent of the rows, at a column of the window. -/
theorem xOut_blk (r : Fin 160) (s k : ℕ) (hs : s < 43) (hk : k < 256) :
    qz (Xb X (2 * s + k / 128 % 2) (ix2 r (⟨k % 128, by omega⟩ : Fin 128))) (kx (Xb X (2 * s + k / 128 % 2)) r)
      = xOut X r (⟨(256 * s + k) % 11008, Nat.mod_lt _ (by decide)⟩ : Fin 11008) := by
  unfold xOut
  have e : (⟨(256 * s + k) % 11008, Nat.mod_lt _ (by decide)⟩ : Fin 11008).val / 128 = 2 * s + k / 128 % 2 := by
    show (256 * s + k) % 11008 / 128 = _; omega
  rw [e]
  refine congrArg (fun x => qz x _) ?_
  unfold Xb
  congr 1
  funext a; apply Fin.ext; fin_cases a
  · show r.val % 160 = r.val; omega
  · show (128 * (2 * s + k / 128 % 2) + k % 128) % 11008 = (256 * s + k) % 11008; omega

/-- A block's entry and exponent of the weight, at a place of the window. -/
theorem wOut_blk (C : Fin 4096) (s k : ℕ) (hs : s < 43) (hk : k < 256) :
    qz (Wb W (2 * s + k / 128 % 2) (C.val / 128 % 32) (ix2 (⟨k % 128, by omega⟩ : Fin 128) (⟨C.val % 128, by omega⟩ : Fin 128)))
        (kw (Wb W (2 * s + k / 128 % 2) (C.val / 128 % 32)))
      = wOut W (⟨(256 * s + k) % 11008, Nat.mod_lt _ (by decide)⟩ : Fin 11008) C := by
  unfold wOut
  have e : (⟨(256 * s + k) % 11008, Nat.mod_lt _ (by decide)⟩ : Fin 11008).val / 128 = 2 * s + k / 128 % 2 := by
    show (256 * s + k) % 11008 / 128 = _; omega
  rw [e, show C.val / 128 % 32 = C.val / 128 by omega]
  refine congrArg (fun x => qz x _) ?_
  unfold Wb
  congr 1
  funext a; apply Fin.ext; fin_cases a
  · show (128 * (2 * s + k / 128 % 2) + k % 128) % 11008 = (256 * s + k) % 11008; omega
  · show (128 * (C.val / 128) + C.val % 128) % 4096 = C.val; omega

end

/-- What a grid point adds to the accumulator. -/
theorem dot_eq (r : Fin 160) (C : Fin 4096) : dot (wb m c t) (xb m c t) r C = term (xArr m c) (wArr m c) r C t.val := by
  have ht := t_lt t
  unfold dot term
  refine Finset.sum_congr rfl fun k _ => ?_
  have hk := k.isLt
  have e : (⟨(256 * t.val + k.val) % 11008, Nat.mod_lt _ (by decide)⟩ : Fin 11008).val / 128 = 2 * t.val + k.val / 128 % 2 := by
    show (256 * t.val + k.val) % 11008 / 128 = _; omega
  unfold xDeq wDeq xv wv
  rw [wb_eq, xb_eq, xOut_blk _ _ _ _ ht hk, wOut_blk _ _ _ _ ht hk, e, show C.val / 128 % 32 = C.val / 128 by omega]

/-- The entries of an array are small enough at every window's block. -/
theorem small_w (h : Small (xArr m c) (wArr m c)) (kb nb : ℕ) : bm (wb m c t kb nb) * cst < pw 247 := by rw [wb_eq]; exact h.1 _ _
theorem small_x (h : Small (xArr m c) (wArr m c)) (kb : ℕ) (r : Fin 160) : rm (xb m c t kb) r * cst < pw 247 := by rw [xb_eq]; exact h.2 _ _

end Cert.KernelIdeal.Points
-- ==== Proof.Last.lean ====
module

public import proofs.«01_k».proof.Proof.Points

@[expose] public section

set_option maxRecDepth 16384

noncomputable section

namespace Cert.KernelIdeal.Points

open Idealize.ShloMosaic Idealize.ShloMosaic.TcCoe Idealize.SL.Sem
open Idealize.ShloMosaic.Pipeline (Dat)
open Cert.KernelIdeal Cert.KernelIdeal.Gen Cert.KernelIdeal.Value Cert.KernelIdeal.Words Cert.KernelIdeal.Block Cert.Exponent

/-! What the last grid point writes out of the carried scratch. -/

variable (m : (ls : Loc nD τ sig) → Buf (Elt Ideal) ls) (c : Dev nD) (t : Fin cfg0.N) (acc : St)
variable (h0 : ¬t.val % 43 = 0) (h1 : t.val % 43 = 42)
include h0 h1

/-- The product written at the last point is the accumulator. -/
theorem y_pt (r : Fin 160) (C : Fin 4096) : (stAt0 m c t.val t.isLt acc).1 (ix2 r C) = (stAt0 m c t.val t.isLt acc).2.2.2.2.2.1 (ix2 r C) := by
  have e : rY.emb (ix2 r C) = ix2 r C := by
    funext a; apply Fin.ext; fin_cases a
    · show 0 + 1 * r.val = r.val; omega
    · show 0 + 1 * C.val = C.val; omega
  have a : (stAt0 m c t.val t.isLt acc).2.2.2.2.2.1 (ix2 r C) = View.canon (accList (wb m c t) (xb m c t) scM0_0 (Memref.isWhole_whole _)
      scM0_1 scM0_2 scM0_3 acc.2.2.2.2.2.1 16) (ix2 r C) := by
    rw [stAt0_C m c t acc h0 h1]; dsimp only; unfold sout0_C_0
    rw [View.read_writes_junk_apply_eq_canon, acc_C]; rfl
  rw [a, stAt0_C m c t acc h0 h1]; dsimp only; unfold out0_C_2
  rw [View.read_writes_junk_apply_eq_canon, y_C]
  refine (congrFun (View.canon_cons_unit_lit (Val := Elt Ideal) _ _ _ (by intro a; fin_cases a <;> rfl)) _).trans ?_
  pointwise [k0_pay2]
  rw [View.readCov_eq_canon']
  show View.canon _ (rY.emb (ix2 r C)) = _
  rw [e]; rfl

/-- The rows' scales written at the last point. -/
theorem xs_pt (r : Fin 160) (l : Fin 86) : (stAt0 m c t.val t.isLt acc).2.2.1 (ix2 r l)
    = ((stAt0 m c t.val t.isLt acc).2.2.2.2.2.2.1 (ix2 r (⟨l.val, by omega⟩ : Fin 128)) : BitVec 32).setWidth 8 := by
  have e : rXsIn.emb (ix2 r l) = ix2 r (⟨l.val, by omega⟩ : Fin 128) := by
    funext a; apply Fin.ext; fin_cases a
    · show 0 + 1 * r.val = r.val; omega
    · show 0 + 1 * l.val = l.val; omega
  have a : (stAt0 m c t.val t.isLt acc).2.2.2.2.2.2.1 (ix2 r (⟨l.val, by omega⟩ : Fin 128)) = View.canon (xseList (xb m c t) (stepW (grid0.coords t)) scM0_4
      (View.readAt (Elt Ideal) scM0_4.view rXs.toLoadRect ((Memref.isWhole_whole _).unread acc.2.2.2.2.2.2.1)) []) (ix2 r (⟨l.val, by omega⟩ : Fin 128)) := by
    rw [stAt0_C m c t acc h0 h1]; dsimp only; unfold sout0_C_4
    rw [View.read_writes_junk_apply_eq_canon, xse_C]; rfl
  rw [a, stAt0_C m c t acc h0 h1]; dsimp only; unfold out0_C_4
  rw [View.read_writes_junk_apply_eq_canon, xs_C]
  refine (congrFun (View.canon_cons_unit_lit (Val := Elt Ideal) _ _ _ (by intro a; fin_cases a <;> rfl)) _).trans ?_
  pointwise [k0_pay3]
  rw [View.readCov_eq_canon']
  rw [← e]; rfl

/-- The weight's scales written at the last point. -/
theorem ws_pt (r : Fin 32) (l : Fin 86) : (stAt0 m c t.val t.isLt acc).2.2.2.2.1 (ix2 r l)
    = ((stAt0 m c t.val t.isLt acc).2.2.2.2.2.2.2 (ix2 r (⟨l.val, by omega⟩ : Fin 128)) : BitVec 32).setWidth 8 := by
  have e : rWsIn.emb (ix2 r l) = ix2 r (⟨l.val, by omega⟩ : Fin 128) := by
    funext a; apply Fin.ext; fin_cases a
    · show 0 + 1 * r.val = r.val; omega
    · show 0 + 1 * l.val = l.val; omega
  have a : (stAt0 m c t.val t.isLt acc).2.2.2.2.2.2.2 (ix2 r (⟨l.val, by omega⟩ : Fin 128)) = View.canon (wseList (wb m c t) (stepW (grid0.coords t)) scM0_1
      scM0_5 (Memref.isWhole_whole _) acc.2.2.2.2.2.2.2 8) (ix2 r (⟨l.val, by omega⟩ : Fin 128)) := by
    rw [stAt0_C m c t acc h0 h1]; dsimp only; unfold sout0_C_5
    rw [View.read_writes_junk_apply_eq_canon, wse_C]; rfl
  rw [a, stAt0_C m c t acc h0 h1]; dsimp only; unfold out0_C_6
  rw [View.read_writes_junk_apply_eq_canon, ws_C]
  refine (congrFun (View.canon_cons_unit_lit (Val := Elt Ideal) _ _ _ (by intro a; fin_cases a <;> rfl)) _).trans ?_
  pointwise [k0_pay4]
  rw [View.readCov_eq_canon']
  rw [← e]; rfl

end Cert.KernelIdeal.Points
-- ==== Proof.Sweep.lean ====
module

public import proofs.«01_k».proof.Proof.Arrays
public import proofs.«01_k».proof.Proof.Last

@[expose] public section

set_option maxRecDepth 16384

noncomputable section

namespace Cert.KernelIdeal.Points

open Idealize.ShloMosaic Idealize.ShloMosaic.TcCoe Idealize.SL.Sem
open Idealize.ShloMosaic.Pipeline (Dat)
open Cert.KernelIdeal Cert.KernelIdeal.Gen Cert.KernelIdeal.Value Cert.KernelIdeal.Words Cert.KernelIdeal.Block Cert.Exponent Cert.Spec

/-! What the grid's points leave one after another. -/

variable (m : (ls : Loc nD τ sig) → Buf (Elt Ideal) ls) (c : Dev nD)
variable (h : Small (xArr m c) (wArr m c))

theorem xb_at (t : Fin cfg0.N) (kb K : ℕ) (hK : 2 * t.val + kb % 2 = K) : xb m c t kb = Xb (xArr m c) K := by rw [xb_eq, hK]
theorem wb_at (t : Fin cfg0.N) (kb nb K : ℕ) (hn : nb < 32) (hK : 2 * t.val + kb % 2 = K) : wb m c t kb nb = Wb (wArr m c) K nb := by
  rw [wb_eq, hK, Nat.mod_eq_of_lt hn]

/-- Every point's state is the point's step from some state. -/
theorem outs_step (n : ℕ) (hn : n < cfg0.N) : ∃ acc : St, outsAt0 m c n hn = stAt0 m c n hn acc := by
  cases n with
  | zero => exact ⟨_, outsAt0_zero m c hn⟩
  | succ n => exact ⟨_, outsAt0_succ m c n hn⟩

include h in
/-- The accumulator after point `n` is the sum of the parts so far. -/
theorem acc_sum (r : Fin 160) (C : Fin 4096) : ∀ (n : ℕ) (hn : n < cfg0.N),
    (outsAt0 m c n hn).2.2.2.2.2.1 (ix2 r C) = ∑ s ∈ Finset.range (n + 1), term (xArr m c) (wArr m c) r C s := by
  intro n
  induction n with
  | zero =>
    intro hn
    rw [outsAt0_zero]
    refine (acc_pt m c ⟨0, hn⟩ _ (small_w m c _ h) (small_x m c _ h) r C).trans ?_
    rw [if_pos rfl, dot_eq, zero_add, Finset.sum_range_one]
  | succ n ih =>
    intro hn
    rw [outsAt0_succ]
    refine (acc_pt m c ⟨n + 1, hn⟩ _ (small_w m c _ h) (small_x m c _ h) r C).trans ?_
    rw [if_neg (by show ¬ n + 1 = 0; omega), dot_eq, ih, Finset.sum_range_succ _ (n + 1)]

include h in
/-- The table of the rows' exponents after point `n` holds the exponents so far. -/
theorem xse_table (r : Fin 160) : ∀ (n : ℕ) (hn : n < cfg0.N) (l : Fin 128), l.val < 2 * n + 2 →
    (outsAt0 m c n hn).2.2.2.2.2.2.1 (ix2 r l) = BitVec.ofNat 32 (kx (Xb (xArr m c) l.val) r) := by
  intro n
  induction n with
  | zero =>
    intro hn l hl
    rw [outsAt0_zero]
    refine (xse_pt m c ⟨0, hn⟩ _ (small_x m c _ h) r l).trans ?_
    unfold xsAt
    by_cases h1 : l.val = 2 * 0 + 1
    · rw [if_pos h1, xb_at m c ⟨0, hn⟩ 1 l.val (by show 2 * 0 + 1 % 2 = l.val; omega)]
    · rw [if_neg h1, if_pos (show l.val = 2 * 0 by omega), xb_at m c ⟨0, hn⟩ 0 l.val (by show 2 * 0 + 0 % 2 = l.val; omega)]
  | succ n ih =>
    intro hn l hl
    rw [outsAt0_succ]
    refine (xse_pt m c ⟨n + 1, hn⟩ _ (small_x m c _ h) r l).trans ?_
    unfold xsAt
    by_cases h1 : l.val = 2 * (n + 1) + 1
    · rw [if_pos h1, xb_at m c ⟨n + 1, hn⟩ 1 l.val (by show 2 * (n + 1) + 1 % 2 = l.val; omega)]
    · by_cases h2 : l.val = 2 * (n + 1)
      · rw [if_neg h1, if_pos h2, xb_at m c ⟨n + 1, hn⟩ 0 l.val (by show 2 * (n + 1) + 0 % 2 = l.val; omega)]
      · rw [if_neg h1, if_neg h2]
        exact (if_neg (by show ¬ n + 1 = 0; omega)).trans (ih _ l (by omega))

include h in
/-- The table of the weight's exponents after point `n` holds the exponents so far. -/
theorem wse_table (R : Fin 32) : ∀ (n : ℕ) (hn : n < cfg0.N) (l : Fin 128), l.val < 2 * n + 2 →
    (outsAt0 m c n hn).2.2.2.2.2.2.2 (ix2 R l) = BitVec.ofNat 32 (kw (Wb (wArr m c) l.val R.val)) := by
  intro n
  have hR := R.isLt
  induction n with
  | zero =>
    intro hn l hl
    rw [outsAt0_zero]
    refine (wse_pt m c ⟨0, hn⟩ _ (small_w m c _ h) R l).trans ?_
    unfold wsAt
    by_cases h1 : l.val = 2 * 0 + 1
    · rw [if_pos ⟨by omega, h1⟩, wb_at m c ⟨0, hn⟩ 1 _ l.val hR (by show 2 * 0 + 1 % 2 = l.val; omega)]
    · rw [if_neg (fun q => h1 q.2), if_pos ⟨by omega, (show l.val = 2 * 0 by omega)⟩, wb_at m c ⟨0, hn⟩ 0 _ l.val hR (by show 2 * 0 + 0 % 2 = l.val; omega)]
  | succ n ih =>
    intro hn l hl
    rw [outsAt0_succ]
    refine (wse_pt m c ⟨n + 1, hn⟩ _ (small_w m c _ h) R l).trans ?_
    unfold wsAt
    by_cases h1 : l.val = 2 * (n + 1) + 1
    · rw [if_pos ⟨by omega, h1⟩, wb_at m c ⟨n + 1, hn⟩ 1 _ l.val hR (by show 2 * (n + 1) + 1 % 2 = l.val; omega)]
    · by_cases h2 : l.val = 2 * (n + 1)
      · rw [if_neg (fun q => h1 q.2), if_pos ⟨by omega, h2⟩, wb_at m c ⟨n + 1, hn⟩ 0 _ l.val hR (by show 2 * (n + 1) + 0 % 2 = l.val; omega)]
      · rw [if_neg (fun q => h1 q.2), if_neg (fun q => h2 q.2), ]
        exact (if_neg (by show ¬ n + 1 = 0; omega)).trans (ih _ l (by omega))

/-- The parts of all points make up the whole sum. -/
theorem term_sum (X : Vec Ideal S160x11008 .bf16) (W : Vec Ideal S11008x4096 .bf16) (r : Fin 160) (C : Fin 4096) :
    ∑ s ∈ Finset.range 43, term X W r C s = yOut X W r C := by
  unfold term yOut
  rw [Finset.sum_range, Fin.sum_univ_tiles 43 256 rfl]
  refine Finset.sum_congr rfl fun s _ => Finset.sum_congr rfl fun k _ => ?_
  have hs := s.isLt
  have hk := k.isLt
  have e : (⟨(256 * s.val + k.val) % 11008, Nat.mod_lt _ (by decide)⟩ : Fin 11008) = ⟨s.val * 256 + k.val, by omega⟩ :=
    Fin.ext (by show (256 * s.val + k.val) % 11008 = s.val * 256 + k.val; omega)
  rw [e]

/-- The last point. -/
abbrev tl : Fin cfg0.N := ⟨42, lt_of_lt_of_eq (by decide) N_0.symm⟩

include h in
/-- The product's array after the run. -/
theorem G2_eq (r : Fin 160) (C : Fin 4096) : G2 m c (ix2 r C) = yOut (xArr m c) (wArr m c) r C := by
  rw [G2_last, ← outsAt0_sweep m c 42 tl.isLt]
  have hs := acc_sum m c h r C 42 tl.isLt
  obtain ⟨acc, e⟩ := outs_step m c 42 tl.isLt
  rw [e] at hs ⊢
  rw [← term_sum, ← hs]
  exact y_pt m c tl acc (by decide) (by decide) r C

include h in
/-- The rows' scales after the run. -/
theorem G4_eq (r : Fin 160) (K : Fin 86) : G4 m c (ix2 r K) = xsOut (xArr m c) r K := by
  rw [G4_last, ← outsAt0_sweep m c 42 tl.isLt]
  have hs := xse_table m c h r 42 tl.isLt (⟨K.val, by omega⟩ : Fin 128) (by show K.val < 2 * 42 + 2; omega)
  obtain ⟨acc, e⟩ := outs_step m c 42 tl.isLt
  rw [e] at hs ⊢
  refine (xs_pt m c tl acc (by decide) (by decide) r K).trans ?_
  unfold xsOut
  exact congrArg (BitVec.setWidth 8) hs

include h in
/-- The weight's scales after the run. -/
theorem G6_eq (R : Fin 32) (K : Fin 86) : G6 m c (ix2 R K) = wsOut (wArr m c) R K := by
  rw [G6_last, ← outsAt0_sweep m c 42 tl.isLt]
  have hs := wse_table m c h R 42 tl.isLt (⟨K.val, by omega⟩ : Fin 128) (by show K.val < 2 * 42 + 2; omega)
  obtain ⟨acc, e⟩ := outs_step m c 42 tl.isLt
  rw [e] at hs ⊢
  refine (ws_pt m c tl acc (by decide) (by decide) R K).trans ?_
  unfold wsOut
  exact congrArg (BitVec.setWidth 8) hs

include h in
/-- The rows' codes after the run. -/
theorem G3_eq (r : Fin 160) (C : Fin 11008) : G3 m c (ix2 r C) = xOut (xArr m c) r C := by
  have hr := r.isLt
  have hC := C.isLt
  have hp : pt3Of (ix2 r C) = C.val / 256 := by
    show 43 * (r.val / 160 - 0) + 1 * (C.val / 256 - 0) = _; omega
  have ht : C.val / 256 < cfg0.N := lt_of_lt_of_eq (by omega) N_0.symm
  unfold G3
  rw [dif_pos (by rw [hp]; exact ht), fold0_congr m c _ _ (C.val / 256) (by rw [zero_add]; exact ht) hp, ← outsAt0_sweep m c _ ht]
  obtain ⟨acc, e⟩ := outs_step m c (C.val / 256) ht
  have el : loc3Of (ix2 r C) = ix2 r (⟨C.val % 256, by omega⟩ : Fin 256) := by
    funext a; apply Fin.ext; fin_cases a
    · show r.val % 160 = r.val; omega
    · rfl
  rw [e, el]
  refine (xq_pt m c ⟨C.val / 256, ht⟩ acc (small_x m c _ h) r _).trans ?_
  have ec : (⟨(256 * (C.val / 256) + C.val % 256) % 11008, Nat.mod_lt _ (by decide)⟩ : Fin 11008) = C :=
    Fin.ext (by show (256 * (C.val / 256) + C.val % 256) % 11008 = C.val; omega)
  have e2 := xOut_blk (xArr m c) r (C.val / 256) (C.val % 256) (by omega) (by omega)
  rw [ec] at e2
  rw [xb_eq]
  exact e2

include h in
/-- The weight's codes after the run. -/
theorem G5_eq (R : Fin 11008) (C : Fin 4096) : G5 m c (ix2 R C) = wOut (wArr m c) R C := by
  have hR := R.isLt
  have hC := C.isLt
  have hp : pt5Of (ix2 R C) = R.val / 256 := by
    show 1 * (R.val / 256 - 0) + 1 * (C.val / 4096 - 0) = _; omega
  have ht : R.val / 256 < cfg0.N := lt_of_lt_of_eq (by omega) N_0.symm
  unfold G5
  rw [dif_pos (by rw [hp]; exact ht), fold0_congr m c _ _ (R.val / 256) (by rw [zero_add]; exact ht) hp, ← outsAt0_sweep m c _ ht]
  obtain ⟨acc, e⟩ := outs_step m c (R.val / 256) ht
  have el : loc5Of (ix2 R C) = ix2 (⟨R.val % 256, by omega⟩ : Fin 256) C := by
    funext a; apply Fin.ext; fin_cases a
    · rfl
    · show C.val % 4096 = C.val; omega
  rw [e, el]
  refine (wq_pt m c ⟨R.val / 256, ht⟩ acc (small_w m c _ h) _ C).trans ?_
  have ec : (⟨(256 * (R.val / 256) + R.val % 256) % 11008, Nat.mod_lt _ (by decide)⟩ : Fin 11008) = R :=
    Fin.ext (by show (256 * (R.val / 256) + R.val % 256) % 11008 = R.val; omega)
  have e2 := wOut_blk (wArr m c) C (R.val / 256) (R.val % 256) (by omega) (by omega)
  rw [ec] at e2
  rw [wb_eq]
  exact e2

end Cert.KernelIdeal.Points
-- ==== Proof.RefValue.lean ====
module

public import proofs.«01_k».proof.Proof.Spec
public import proofs.«01_k».proof.Proof.Gen.ReferenceIdeal.Value

@[expose] public section

set_option maxRecDepth 16384

noncomputable section

namespace Cert.ReferenceIdeal.Out

open Idealize.ShloMosaic Idealize.ShloMosaic.TcCoe Idealize.SL.Sem
open Cert.ReferenceIdeal Cert.ReferenceIdeal.Gen Cert.KernelIdeal.Block Cert.Exponent Cert.Spec

/-! The reference's five results as the same functions. -/

variable (X : Vec Ideal S160x11008 .bf16) (W : Vec Ideal S11008x4096 .bf16)

theorem ab_nonneg (x : EReal) : 0 ≤ ab x := by
  unfold ab
  rcases le_total 0 x with h | h
  · exact le_max_of_le_left h
  · exact le_max_of_le_right (EReal.neg_nonneg.2 h)

theorem cst_val : cst = ((9586981 / 4294967296 : ℝ) : EReal) := by
  unfold cst
  simp [Ideal.ofBits, Ideal.ieee]
  rw [← EReal.coe_mul]; norm_num

theorem cst_nonneg : 0 ≤ cst := by
  rw [cst_val, ← EReal.coe_zero, EReal.coe_le_coe_iff]; norm_num

theorem rm_nonneg (v : Vec Ideal Cert.KernelIdeal.S160x128 .bf16) (r : Fin 160) : 0 ≤ rm v r * cst :=
  mul_nonneg (le_iSup_of_le (0 : Fin 128) (ab_nonneg _)) cst_nonneg

theorem bm_nonneg (B : Vec Ideal Cert.KernelIdeal.S128x128 .bf16) : 0 ≤ bm B * cst :=
  mul_nonneg (le_iSup_of_le (0 : Fin 128) (le_iSup_of_le (0 : Fin 128) (ab_nonneg _))) cst_nonneg

theorem pay5_apply (r : Fin 160) (K : Fin 86) (l : Fin 128) :
    k0_pay5 X (ix3 r K l) = X (ix2 r (⟨K.val * 128 + l.val, by omega⟩ : Fin 11008)) := by
  pointwise [k0_pay5]

theorem pay9_apply (K : Fin 86) (a : Fin 128) (nb : Fin 32) (b : Fin 128) :
    k0_pay9 W (ix4 K a nb b) = W (ix2 (⟨K.val * 128 + a.val, by omega⟩ : Fin 11008) (⟨nb.val * 128 + b.val, by omega⟩ : Fin 4096)) := by
  pointwise [k0_pay9]

theorem Xb_apply (K : Fin 86) (r : Fin 160) (l : Fin 128) :
    Xb X K.val (ix2 r l) = X (ix2 r (⟨K.val * 128 + l.val, by omega⟩ : Fin 11008)) := by
  unfold Xb
  congr 1
  funext a; apply Fin.ext; fin_cases a
  · show r.val % 160 = r.val; omega
  · show (128 * K.val + l.val) % 11008 = K.val * 128 + l.val; omega

theorem Wb_apply (K : Fin 86) (nb : Fin 32) (a b : Fin 128) :
    Wb W K.val nb.val (ix2 a b) = W (ix2 (⟨K.val * 128 + a.val, by omega⟩ : Fin 11008) (⟨nb.val * 128 + b.val, by omega⟩ : Fin 4096)) := by
  unfold Wb
  congr 1
  funext i; apply Fin.ext; fin_cases i
  · show (128 * K.val + a.val) % 11008 = K.val * 128 + a.val; omega
  · show (128 * nb.val + b.val) % 4096 = nb.val * 128 + b.val; omega

/-- The largest magnitude of a row's block. -/
theorem xmax_apply (r : Fin 160) (K : Fin 86) :
    multiReduction .maximumf [2] S160x86 (absf (k0_pay5 X)) 0xFF800000#32 reduces_S160x86x128_S160x86 (.inl rfl) rfl (ix2 r K) = rm (Xb X K.val) r := by
  pointwise [k0_pay5]
  refine eq_of_forall_ge_iff fun b => ?_
  rw [Finset.fold_max_le, ofBits_bot]
  unfold rm
  simp only [iSup_le_iff, bot_le, true_and, Finset.mem_univ, true_implies, Xb_apply]
  rfl

/-- The largest magnitude of a block of the weight. -/
theorem wmax_apply (K : Fin 86) (nb : Fin 32) : k0_pay10 W (ix2 K nb) = bm (Wb W K.val nb.val) := by
  pointwise [k0_pay10, k0_pay9]
  refine eq_of_forall_ge_iff fun b => ?_
  rw [Finset.fold_max_le, ofBits_bot]
  unfold bm
  simp only [Finset.fold_max_le, ofBits_bot, iSup_le_iff, bot_le, true_and, Finset.mem_univ, true_implies, Wb_apply]
  exact ⟨fun h x y => h y x, fun h x y => h y x⟩

variable (h : Small X W)

/-- The exponent of one block's largest magnitude. -/
theorem expo_apply (v : FVec Ideal S86x32 .f32) (j : S86x32.Idx) : k0_pay11 v j = expR (v j * cst) := rfl

include h in
/-- The exponent of a row's block. -/
theorem pay6_apply (r : Fin 160) (K : Fin 86) : k0_pay6 X (ix2 r K) = BitVec.ofNat 32 (kx (Xb X K.val) r) - 127#32 := by
  unfold k0_pay6
  have e := xmax_apply X r K
  generalize multiReduction .maximumf [2] S160x86 (absf (k0_pay5 X)) 0xFF800000#32 reduces_S160x86x128_S160x86 (.inl rfl) rfl = v at e ⊢
  refine Eq.trans (b := expR (v (ix2 r K) * cst)) rfl ?_
  rw [e]
  exact expR_eq (rm_nonneg _ _) (h.2 _ _)

include h in
/-- The exponent of a block of the weight. -/
theorem pay11_apply (K : Fin 86) (nb : Fin 32) : k0_pay11 (k0_pay10 W) (ix2 K nb) = BitVec.ofNat 32 (kw (Wb W K.val nb.val)) - 127#32 := by
  rw [expo_apply, wmax_apply]
  exact expR_eq (bm_nonneg _) (h.1 _ _)

end Cert.ReferenceIdeal.Out
-- ==== Proof.RefOut.lean ====
module

public import proofs.«01_k».proof.Proof.RefValue

@[expose] public section

set_option maxRecDepth 16384

noncomputable section

namespace Cert.ReferenceIdeal.Out

open Idealize.ShloMosaic Idealize.ShloMosaic.TcCoe Idealize.SL.Sem
open Cert.ReferenceIdeal Cert.ReferenceIdeal.Gen Cert.KernelIdeal.Block Cert.Exponent Cert.Spec

/-! The reference's codes, scales and scaled numbers. -/

variable (X : Vec Ideal S160x11008 .bf16) (W : Vec Ideal S11008x4096 .bf16)

theorem pay7_raw (r : Fin 160) (K : Fin 86) (l : Fin 128) : k0_pay7 X (ix3 r K l)
    = min (Ideal.ofBits .f32 0x43E00000#32) (max (Ideal.ofBits .f32 0xC3E00000#32)
        (k0_pay5 X (ix3 r K l) * Ideal.exp2 (Ideal.ofBits .f32 0x00000000#32 - ((((k0_pay6 X (ix2 r K)).toInt : ℝ)) : EReal)))) := by
  unfold k0_pay7
  generalize k0_pay5 X = u
  generalize k0_pay6 X = e
  pointwise
  rfl

theorem pay12_raw (u : FVec Ideal S86x128x32x128 .f32) (v : FVec Ideal S86x32 .f32) (K : Fin 86) (a : Fin 128) (nb : Fin 32) (b : Fin 128) : k0_pay12 u v (ix4 K a nb b)
    = min (Ideal.ofBits .f32 0x43E00000#32) (max (Ideal.ofBits .f32 0xC3E00000#32)
        (u (ix4 K a nb b) * Ideal.exp2 (Ideal.ofBits .f32 0x00000000#32 - ((((k0_pay11 v (ix2 K nb)).toInt : ℝ)) : EReal)))) := by
  unfold k0_pay12
  generalize k0_pay11 v = e
  pointwise
  rfl

theorem pay2_raw (v : FVec Ideal S160x86x128 .fp8e4m3) (r : Fin 160) (C : Fin 11008) :
    k0_pay2 v (ix2 r C) = v (ix3 r (⟨C.val / 128, by omega⟩ : Fin 86) (⟨C.val % 128, by omega⟩ : Fin 128)) := by
  pointwise [k0_pay2]

theorem pay3_raw (v : FVec Ideal S86x128x32x128 .fp8e4m3) (R : Fin 11008) (C : Fin 4096) :
    k0_pay3 v (ix2 R C) = v (ix4 (⟨R.val / 128, by omega⟩ : Fin 86) (⟨R.val % 128, by omega⟩ : Fin 128) (⟨C.val / 128, by omega⟩ : Fin 32) (⟨C.val % 128, by omega⟩ : Fin 128)) := by
  pointwise [k0_pay3]

theorem pay14_raw (v : FVec Ideal S160x86x128 .fp8e4m3) (e : IVec S160x86 8) (r : Fin 160) (C : Fin 11008) :
    k0_pay14 v e (ix2 r C) = v (ix3 r (⟨C.val / 128, by omega⟩ : Fin 86) (⟨C.val % 128, by omega⟩ : Fin 128))
      * Ideal.exp2 ((((IntOp.subi ((e (ix2 r (⟨C.val / 128, by omega⟩ : Fin 86))).setWidth 32) 127#32).toInt : ℝ)) : EReal) := by
  pointwise [k0_pay14]
  rfl

theorem pay16_raw (v : FVec Ideal S86x32 .f32) (K : Fin 86) (nb : Fin 32) :
    k0_pay16 v (ix2 K nb) = Ideal.exp2 ((((IntOp.subi (((IntOp.addi (k0_pay11 v (ix2 K nb)) 127#32).setWidth 8).setWidth 32) 127#32).toInt : ℝ)) : EReal) := by
  unfold k0_pay16 k0_pay13
  generalize k0_pay11 v = e
  pointwise
  rfl

theorem pay1_raw (x : FVec Ideal S160x11008 .bf16) (v : FVec Ideal S86x128x32x128 .bf16) (p : FVec Ideal S86x32 .f32) (r : Fin 160) (C : Fin 4096) :
    k0_pay1 x v p (ix2 r C) = ∑ k : Fin 11008, x (ix2 r k)
      * (v (ix4 (⟨k.val / 128, by omega⟩ : Fin 86) (⟨k.val % 128, by omega⟩ : Fin 128) (⟨C.val / 128, by omega⟩ : Fin 32) (⟨C.val % 128, by omega⟩ : Fin 128))
        * p (ix2 (⟨k.val / 128, by omega⟩ : Fin 86) (⟨C.val / 128, by omega⟩ : Fin 32))) := by
  pointwise [k0_pay1]

variable (h : Small X W)

include h in
/-- A code of the rows. -/
theorem pay7_apply (r : Fin 160) (C : Fin 11008) :
    k0_pay7 X (ix3 r (⟨C.val / 128, by omega⟩ : Fin 86) (⟨C.val % 128, by omega⟩ : Fin 128)) = xOut X r C := by
  have hb := kOf_bounds (h.2 (C.val / 128) r)
  rw [pay7_raw, pay5_apply, pay6_apply X W h, show Ideal.ofBits .f32 0x00000000#32 = (0 : EReal) by simp [Ideal.ofBits, Ideal.ieee],
    exp2_inv (by show kx (Xb X (C.val / 128)) r ≤ 254; unfold kx; omega)]
  unfold xOut qz
  have e : (⟨C.val / 128 * 128 + C.val % 128, by omega⟩ : Fin 11008) = C := Fin.ext (by show C.val / 128 * 128 + C.val % 128 = C.val; omega)
  rw [min_comm, max_comm]
  show min (max (X (ix2 r (⟨C.val / 128 * 128 + C.val % 128, _⟩ : Fin 11008)) * _) _) _ = _
  rw [e]

include h in
/-- A code of the weight. -/
theorem pay12_apply (R : Fin 11008) (C : Fin 4096) :
    k0_pay12 (k0_pay9 W) (k0_pay10 W) (ix4 (⟨R.val / 128, by omega⟩ : Fin 86) (⟨R.val % 128, by omega⟩ : Fin 128) (⟨C.val / 128, by omega⟩ : Fin 32) (⟨C.val % 128, by omega⟩ : Fin 128))
      = wOut W R C := by
  have hb := kOf_bounds (h.1 (R.val / 128) (C.val / 128))
  rw [pay12_raw, pay9_apply, pay11_apply X W h, show Ideal.ofBits .f32 0x00000000#32 = (0 : EReal) by simp [Ideal.ofBits, Ideal.ieee],
    exp2_inv (by show kw (Wb W (R.val / 128) (C.val / 128)) ≤ 254; unfold kw; omega)]
  unfold wOut qz
  have e : (⟨R.val / 128 * 128 + R.val % 128, by omega⟩ : Fin 11008) = R := Fin.ext (by show R.val / 128 * 128 + R.val % 128 = R.val; omega)
  have e' : (⟨C.val / 128 * 128 + C.val % 128, by omega⟩ : Fin 4096) = C := Fin.ext (by show C.val / 128 * 128 + C.val % 128 = C.val; omega)
  rw [min_comm, max_comm]
  show min (max (W (ix2 (⟨R.val / 128 * 128 + R.val % 128, _⟩ : Fin 11008) (⟨C.val / 128 * 128 + C.val % 128, _⟩ : Fin 4096)) * _) _) _ = _
  rw [e, e']

theorem pay8_eq (j : S160x86.Idx) : k0_pay8 X j = (IntOp.addi (k0_pay6 X j) 127#32).setWidth 8 := rfl

theorem code_byte : ∀ k < 256, (IntOp.addi (BitVec.ofNat 32 k - 127#32) 127#32).setWidth 8 = (BitVec.ofNat 32 k).setWidth 8 := by decide +kernel

include h in
/-- A stored scale of the rows. -/
theorem pay8_apply (r : Fin 160) (K : Fin 86) : k0_pay8 X (ix2 r K) = xsOut X r K := by
  have hb := kOf_bounds (h.2 K.val r)
  rw [pay8_eq, pay6_apply X W h]
  exact code_byte _ (by unfold kx; omega)

theorem pay4_raw (v : IVec S86x32 8) (nb : Fin 32) (K : Fin 86) : k0_pay4 v (ix2 nb K) = v (ix2 K nb) := by
  pointwise [k0_pay4]

theorem pay13_eq (v : FVec Ideal S86x32 .f32) (j : S86x32.Idx) : k0_pay13 v j = (IntOp.addi (k0_pay11 v j) 127#32).setWidth 8 := rfl

include h in
/-- A stored scale of the weight. -/
theorem ws_apply (nb : Fin 32) (K : Fin 86) : k0_pay4 (k0_pay13 (k0_pay10 W)) (ix2 nb K) = wsOut W nb K := by
  have hb := kOf_bounds (h.1 K.val nb.val)
  rw [pay4_raw, pay13_eq, pay11_apply X W h]
  exact code_byte _ (by unfold kw; omega)

include h in
/-- The rows' codes. -/
theorem xc_apply (r : Fin 160) (C : Fin 11008) : k0_pay2 (k0_pay7 X) (ix2 r C) = xOut X r C := by
  rw [pay2_raw, pay7_apply X W h]

include h in
/-- The weight's codes. -/
theorem wc_apply (R : Fin 11008) (C : Fin 4096) : k0_pay3 (k0_pay12 (k0_pay9 W) (k0_pay10 W)) (ix2 R C) = wOut W R C := by
  rw [pay3_raw, pay12_apply X W h]

include h in
/-- An entry of the rows as the product reads it. -/
theorem pay14_apply (r : Fin 160) (C : Fin 11008) : k0_pay14 (k0_pay7 X) (k0_pay8 X) (ix2 r C) = xDeq X r C := by
  have hb := kOf_bounds (h.2 (C.val / 128) r)
  rw [pay14_raw, pay7_apply X W h, pay8_eq, pay6_apply X W h, code_word _ (by unfold kx; show kOf (rm (Xb X (C.val / 128)) r * cst) < 256; omega),
    exp2_scl (by unfold kx; show kOf (rm (Xb X (C.val / 128)) r * cst) < 256; omega)]
  rfl

include h in
/-- The power of a block of the weight. -/
theorem pay16_apply (K : Fin 86) (nb : Fin 32) : k0_pay16 (k0_pay10 W) (ix2 K nb) = pw (kw (Wb W K.val nb.val)) := by
  have hb := kOf_bounds (h.1 K.val nb.val)
  rw [pay16_raw, pay11_apply X W h, code_word _ (by unfold kw; omega), exp2_scl (by unfold kw; omega)]

include h in
/-- The product. -/
theorem y_apply (r : Fin 160) (C : Fin 4096) :
    k0_pay1 (k0_pay14 (k0_pay7 X) (k0_pay8 X)) (k0_pay15 (k0_pay9 W) (k0_pay10 W)) (k0_pay16 (k0_pay10 W)) (ix2 r C) = yOut X W r C := by
  rw [pay1_raw]
  unfold yOut
  refine Finset.sum_congr rfl fun k _ => ?_
  rw [pay14_apply X W h, pay16_apply X W h]
  show _ * (k0_pay12 (k0_pay9 W) (k0_pay10 W) _ * _) = _
  rw [pay12_apply X W h]
  rfl

end Cert.ReferenceIdeal.Out
-- ==== Proof.RefRun.lean ====
module

public import proofs.«01_k».proof.Proof.RefOut

@[expose] public section

set_option maxRecDepth 16384

noncomputable section

namespace Cert.ReferenceIdeal.Out

open Idealize.ShloMosaic Idealize.ShloMosaic.TcCoe Idealize.SL.Sem
open Idealize.ShloMosaic.Pipeline (Dat)
open Cert.ReferenceIdeal Cert.ReferenceIdeal.Gen Cert.ReferenceIdeal.Value Cert.KernelIdeal.Block Cert.Exponent Cert.Spec

/-! The reference's arrays after its run. -/

section
variable (X : Vec Ideal S160x11008 .bf16) (W : Vec Ideal S11008x4096 .bf16)

theorem zero2 : ∀ a, (![0, 0] : Fin 2 → ℕ) a = 0 := by intro a; fin_cases a <;> rfl

theorem ld_x : View.ld (Val := Elt Ideal) X r0_0 = X := View.ld_unit_lit (Val := Elt Ideal) _ X zero2
theorem ld_w : View.ld (Val := Elt Ideal) W r0_1 = W := View.ld_unit_lit (Val := Elt Ideal) _ W zero2

/-- The product, as a function of the arrays. -/
def F2 : Vec Ideal S160x4096 .bf16 := fun i => yOut X W (i 0) (i 1)
/-- The rows' codes. -/
def F3 : Vec Ideal S160x11008 .fp8e4m3 := fun i => xOut X (i 0) (i 1)
/-- The rows' scales. -/
def F4 : Vec Ideal S160x86 .i8 := fun i => xsOut X (i 0) (i 1)
/-- The weight's codes. -/
def F5 : Vec Ideal S11008x4096 .fp8e4m3 := fun i => wOut W (i 0) (i 1)
/-- The weight's scales. -/
def F6 : Vec Ideal S32x86 .i8 := fun i => wsOut W (i 0) (i 1)

variable (h : Small X W)

include h in
theorem out2 : out0_2 X W = F2 X W := by
  unfold out0_2 k0_pay17 k0_pay18 k0_pay19 k0_pay20
  rw [ld_x, ld_w]
  refine (View.canon_cons_unit_lit (Val := Elt Ideal) _ _ _ zero2).trans ?_
  funext i
  idx_vars i
  exact y_apply X W h _ _

include h in
theorem out3 : out0_3 X W = F3 X := by
  unfold out0_3 k0_pay17
  rw [ld_x]
  refine (View.canon_cons_unit_lit (Val := Elt Ideal) _ _ _ zero2).trans ?_
  funext i
  idx_vars i
  exact xc_apply X W h _ _

include h in
theorem out4 : out0_4 X W = F4 X := by
  unfold out0_4 k0_pay18
  rw [ld_x]
  refine (View.canon_cons_unit_lit (Val := Elt Ideal) _ _ _ zero2).trans ?_
  funext i
  idx_vars i
  exact pay8_apply X W h _ _

include h in
theorem out5 : out0_5 X W = F5 W := by
  unfold out0_5 k0_pay19 k0_pay20
  rw [ld_w]
  refine (View.canon_cons_unit_lit (Val := Elt Ideal) _ _ _ zero2).trans ?_
  funext i
  idx_vars i
  exact wc_apply X W h _ _

include h in
theorem out6 : out0_6 X W = F6 W := by
  unfold out0_6 k0_pay20
  rw [ld_w]
  refine (View.canon_cons_unit_lit (Val := Elt Ideal) _ _ _ zero2).trans ?_
  funext i
  idx_vars i
  exact ws_apply X W h _ _
end

variable (m : (ls : Loc nD τ sig) → Buf (Elt Ideal) ls) (ρ : Dev nD → PrngReg) (c : Dev nD) (t : Fin cfg0.N)

/-- The rows' array, as the call finds it. -/
def xArr : Vec Ideal S160x11008 .bf16 := V m c main_v0
/-- The weight's array, as the call finds it. -/
def wArr : Vec Ideal S11008x4096 .bf16 := V m c main_arg1

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

theorem emb0 (j : S160x11008.Idx) : ((cfg0.win 0).blk t).view.emb j = j := by
  obtain ⟨e0, e1⟩ := idx0 t
  funext a; apply Fin.ext
  match a with
  | ⟨0, _⟩ => show win0_0.index t (0 : Fin 2) * 160 + 1 * (j 0).val = (j 0).val; omega
  | ⟨1, _⟩ => show win0_0.index t (1 : Fin 2) * 11008 + 1 * (j 1).val = (j 1).val; omega

theorem emb1 (j : S11008x4096.Idx) : ((cfg0.win 1).blk t).view.emb j = j := by
  obtain ⟨e0, e1⟩ := idx1 t
  funext a; apply Fin.ext
  match a with
  | ⟨0, _⟩ => show win0_1.index t (0 : Fin 2) * 11008 + 1 * (j 0).val = (j 0).val; omega
  | ⟨1, _⟩ => show win0_1.index t (1 : Fin 2) * 4096 + 1 * (j 1).val = (j 1).val; omega

theorem emb2 (j : S160x4096.Idx) : ((cfg0.win 2).blk t).view.emb j = j := by
  obtain ⟨e0, e1⟩ := idx2 t
  funext a; apply Fin.ext
  match a with
  | ⟨0, _⟩ => show win0_2.index t (0 : Fin 2) * 160 + 1 * (j 0).val = (j 0).val; omega
  | ⟨1, _⟩ => show win0_2.index t (1 : Fin 2) * 4096 + 1 * (j 1).val = (j 1).val; omega

theorem emb3 (j : S160x11008.Idx) : ((cfg0.win 3).blk t).view.emb j = j := by
  obtain ⟨e0, e1⟩ := idx3 t
  funext a; apply Fin.ext
  match a with
  | ⟨0, _⟩ => show win0_3.index t (0 : Fin 2) * 160 + 1 * (j 0).val = (j 0).val; omega
  | ⟨1, _⟩ => show win0_3.index t (1 : Fin 2) * 11008 + 1 * (j 1).val = (j 1).val; omega

theorem emb4 (j : S160x86.Idx) : ((cfg0.win 4).blk t).view.emb j = j := by
  obtain ⟨e0, e1⟩ := idx4 t
  funext a; apply Fin.ext
  match a with
  | ⟨0, _⟩ => show win0_4.index t (0 : Fin 2) * 160 + 1 * (j 0).val = (j 0).val; omega
  | ⟨1, _⟩ => show win0_4.index t (1 : Fin 2) * 86 + 1 * (j 1).val = (j 1).val; omega

theorem emb5 (j : S11008x4096.Idx) : ((cfg0.win 5).blk t).view.emb j = j := by
  obtain ⟨e0, e1⟩ := idx5 t
  funext a; apply Fin.ext
  match a with
  | ⟨0, _⟩ => show win0_5.index t (0 : Fin 2) * 11008 + 1 * (j 0).val = (j 0).val; omega
  | ⟨1, _⟩ => show win0_5.index t (1 : Fin 2) * 4096 + 1 * (j 1).val = (j 1).val; omega

theorem emb6 (j : S32x86.Idx) : ((cfg0.win 6).blk t).view.emb j = j := by
  obtain ⟨e0, e1⟩ := idx6 t
  funext a; apply Fin.ext
  match a with
  | ⟨0, _⟩ => show win0_6.index t (0 : Fin 2) * 32 + 1 * (j 0).val = (j 0).val; omega
  | ⟨1, _⟩ => show win0_6.index t (1 : Fin 2) * 86 + 1 * (j 1).val = (j 1).val; omega

/-- An input window's block is its array. -/
theorem iblk0_eq : iblk m c 0 t = xArr m c := by
  funext j; show V m c main_v0 (((cfg0.win 0).blk t).view.emb j) = V m c main_v0 j; rw [emb0]
theorem iblk1_eq : iblk m c 1 t = wArr m c := by
  funext j; show V m c main_arg1 (((cfg0.win 1).blk t).view.emb j) = V m c main_arg1 j; rw [emb1]

variable (h : Small (xArr m c) (wArr m c))

abbrev t0 : Fin cfg0.N := ⟨0, by decide⟩

include h in
theorem final2 : (dats m 0 c).arrAt 2 cfg0.N = F2 (xArr m c) (wArr m c) :=
  (dats m 0 c).arrAt_eq_of_cover 2 _ (fun t _ => by
      rw [flushed2, iblk0_eq, iblk1_eq, out2 _ _ h]
      funext j
      show F2 (xArr m c) (wArr m c) j = F2 (xArr m c) (wArr m c) (((cfg0.win 2).blk t).view.emb j)
      rw [emb2])
    (fun i => ⟨t0, by decide, by have h := ((cfg0.win 2).blk t0).view.emb_mem_set i; rwa [emb2] at h⟩)

include h in
theorem final3 : (dats m 0 c).arrAt 3 cfg0.N = F3 (xArr m c) :=
  (dats m 0 c).arrAt_eq_of_cover 3 _ (fun t _ => by
      rw [flushed3, iblk0_eq, iblk1_eq, out3 _ _ h]
      funext j
      show F3 (xArr m c) j = F3 (xArr m c) (((cfg0.win 3).blk t).view.emb j)
      rw [emb3])
    (fun i => ⟨t0, by decide, by have h := ((cfg0.win 3).blk t0).view.emb_mem_set i; rwa [emb3] at h⟩)

include h in
theorem final4 : (dats m 0 c).arrAt 4 cfg0.N = F4 (xArr m c) :=
  (dats m 0 c).arrAt_eq_of_cover 4 _ (fun t _ => by
      rw [flushed4, iblk0_eq, iblk1_eq, out4 _ _ h]
      funext j
      show F4 (xArr m c) j = F4 (xArr m c) (((cfg0.win 4).blk t).view.emb j)
      rw [emb4])
    (fun i => ⟨t0, by decide, by have h := ((cfg0.win 4).blk t0).view.emb_mem_set i; rwa [emb4] at h⟩)

include h in
theorem final5 : (dats m 0 c).arrAt 5 cfg0.N = F5 (wArr m c) :=
  (dats m 0 c).arrAt_eq_of_cover 5 _ (fun t _ => by
      rw [flushed5, iblk0_eq, iblk1_eq, out5 _ _ h]
      funext j
      show F5 (wArr m c) j = F5 (wArr m c) (((cfg0.win 5).blk t).view.emb j)
      rw [emb5])
    (fun i => ⟨t0, by decide, by have h := ((cfg0.win 5).blk t0).view.emb_mem_set i; rwa [emb5] at h⟩)

include h in
theorem final6 : (dats m 0 c).arrAt 6 cfg0.N = F6 (wArr m c) :=
  (dats m 0 c).arrAt_eq_of_cover 6 _ (fun t _ => by
      rw [flushed6, iblk0_eq, iblk1_eq, out6 _ _ h]
      funext j
      show F6 (wArr m c) j = F6 (wArr m c) (((cfg0.win 6).blk t).view.emb j)
      rw [emb6])
    (fun i => ⟨t0, by decide, by have h := ((cfg0.win 6).blk t0).view.emb_mem_set i; rwa [emb6] at h⟩)

/-- The rows' array is the argument read row by row, and the weight's is the argument. -/
theorem xArr_eq : xArr m c = shapeCast S160x11008 (m ((c : Thread nD τ).loc main_arg0)) shapeCasts_S160x1x11008_S160x11008 := rfl
theorem wArr_eq : wArr m c = m ((c : Thread nD τ).loc main_arg1) := V_main_arg1 m c

end Cert.ReferenceIdeal.Out
-- ==== Proof.Pre.lean ====
module

public import proofs.«01_k».proof.Proof.Spec
public import proofs.«01_k».proof.Proof.Gen.Pre_finite
public import Idealize.ShloMosaic.Lib.ReduceAll

@[expose] public section

set_option maxRecDepth 16384

noncomputable section

namespace Cert.Pre_finite

open Idealize.ShloMosaic Idealize.ShloMosaic.TcCoe
open Cert.KernelIdeal.Block Cert.Exponent Cert.Spec

/-! What the precondition gives. -/

instance : Subsingleton S_.Idx := ⟨fun a b => funext fun i => i.elim0⟩

/-- The largest finite number of the input type. -/
def lim : EReal := Ideal.ofBits .bf16 0x7F7F#16

theorem cmp_le (a b : EReal) (h : FloatOps.cmpf (F := Ideal) (φ := .bf16) .ole a b = 1#1) : a ≤ b := by
  by_contra hn
  have : FloatOps.cmpf (F := Ideal) (φ := .bf16) .ole a b = 0#1 := by
    show BitVec.ofBool (decide (a ≤ b)) = 0#1
    rw [decide_eq_false hn]; rfl
  rw [this] at h
  exact absurd h (by decide)

/-- The precondition bounds every entry of both arrays. -/
theorem bounds [Facts] (x : FVec Ideal S160x1x11008 .bf16) (w : FVec Ideal S11008x4096 .bf16) (h : fn x w = fun _ => 1#1) :
    (∀ i, ab (x i) ≤ lim) ∧ ∀ i, ab (w i) ≤ lim := by
  have e := congrFun h (Shape.Idx.first Facts.h_S_)
  have e2 : ∀ a b : BitVec 1, a &&& b = 1#1 → a = 1#1 ∧ b = 1#1 := by decide
  obtain ⟨h1, h2⟩ := e2 _ _ e
  exact ⟨fun i => cmp_le _ _ (Host.reduce_andi_all _ _ _ _ _ h1 i), fun i => cmp_le _ _ (Host.reduce_andi_all _ _ _ _ _ h2 i)⟩

theorem lim_cst : lim * cst < pw 247 := by
  have h1 : lim = ((255 * 2 ^ 120 : ℝ) : EReal) := by
    unfold lim
    simp [Ideal.ofBits, Ideal.ieee]
    try (rw [← EReal.coe_mul]; norm_num)
  have h2 : cst = ((9586981 / 4294967296 : ℝ) : EReal) := by
    unfold cst
    simp [Ideal.ofBits, Ideal.ieee]
    rw [← EReal.coe_mul]; norm_num
  rw [h1, h2]
  unfold pw
  rw [← EReal.coe_mul, EReal.coe_lt_coe_iff]
  norm_num

theorem cst_pos : 0 ≤ cst := by
  have h2 : cst = ((9586981 / 4294967296 : ℝ) : EReal) := by
    unfold cst
    simp [Ideal.ofBits, Ideal.ieee]
    rw [← EReal.coe_mul]; norm_num
  rw [h2, ← EReal.coe_zero, EReal.coe_le_coe_iff]; norm_num

/-- So no exponent runs past the range. -/
theorem small (X : Vec Ideal Cert.KernelIdeal.S160x11008 .bf16) (W : Vec Ideal Cert.KernelIdeal.S11008x4096 .bf16)
    (hx : ∀ i, ab (X i) ≤ lim) (hw : ∀ i, ab (W i) ≤ lim) : Small X W :=
  ⟨fun _ _ => (mul_le_mul_of_nonneg_right (iSup_le fun _ => iSup_le fun _ => hw _) cst_pos).trans_lt lim_cst,
    fun _ _ => (mul_le_mul_of_nonneg_right (iSup_le fun _ => hx _) cst_pos).trans_lt lim_cst⟩

end Cert.Pre_finite
-- ==== Proof.Equation.lean ====
module

public import proofs.«01_k».proof.Defs
public import proofs.«01_k».proof.Proof.Sweep
public import proofs.«01_k».proof.Proof.RefRun
public import proofs.«01_k».proof.Proof.Pre

@[expose] public section

set_option maxRecDepth 16384

noncomputable section

namespace Cert.Equation

open Idealize.ShloMosaic Idealize.ShloMosaic.TcCoe Idealize.SL.Sem
open Cert.Spec Cert.ReferenceIdeal.Out

/-! The kernel's five results are the reference's. -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel's arrays of rows and of weights, under short names. -/
abbrev kx : Vec Ideal Cert.KernelIdeal.S160x11008 .bf16 := Cert.KernelIdeal.Points.xArr m c
abbrev kw : Vec Ideal Cert.KernelIdeal.S11008x4096 .bf16 := Cert.KernelIdeal.Points.wArr m c

theorem kx_eq : kx m c = shapeCast Cert.KernelIdeal.S160x11008 (m ((c.tc : Thread Cert.KernelIdeal.nD Cert.KernelIdeal.τ).loc Cert.KernelIdeal.main_arg0))
    Cert.KernelIdeal.Gen.facts.shapeCasts_S160x1x11008_S160x11008 := rfl
theorem kw_eq : kw m c = m ((c.tc : Thread Cert.KernelIdeal.nD Cert.KernelIdeal.τ).loc Cert.KernelIdeal.main_arg1) :=
  Cert.KernelIdeal.Gen.V_main_arg1 m c

/-- Under the precondition no exponent of either array runs past the range. -/
theorem small (h : Cert.Pre_KernelIdeal_finite (hPre_finite := Cert.Pre_finite.Gen.facts) m) : Small (kx m c) (kw m c) := by
  obtain ⟨hx, hw⟩ := Cert.Pre_finite.bounds _ _ (h c)
  refine Cert.Pre_finite.small _ _ (fun i => ?_) (fun i => ?_)
  · exact hx _
  · rw [kw_eq]; exact hw i

/-- Equal arguments give equal arrays. -/
theorem x_same (h : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0)) : Cert.ReferenceIdeal.Out.xArr m' c = kx m c := by
  rw [xArr_eq, kx_eq]
  exact congrArg (fun v => shapeCast Cert.KernelIdeal.S160x11008 v Cert.KernelIdeal.Gen.facts.shapeCasts_S160x1x11008_S160x11008) h
theorem w_same (h : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1)) : Cert.ReferenceIdeal.Out.wArr m' c = kw m c := by
  rw [wArr_eq, kw_eq]
  exact h

section
variable (h : Small (kx m c) (kw m c))
include h
theorem g2 : Cert.KernelIdeal.Value.G2 m c = F2 (kx m c) (kw m c) := by
  funext i; rw [eq_ix2 i]; exact Cert.KernelIdeal.Points.G2_eq m c h _ _
theorem g3 : Cert.KernelIdeal.Value.G3 m c = F3 (kx m c) := by
  funext i; rw [eq_ix2 i]; exact Cert.KernelIdeal.Points.G3_eq m c h _ _
theorem g4 : Cert.KernelIdeal.Value.G4 m c = F4 (kx m c) := by
  funext i; rw [eq_ix2 i]; exact Cert.KernelIdeal.Points.G4_eq m c h _ _
theorem g5 : Cert.KernelIdeal.Value.G5 m c = F5 (kw m c) := by
  funext i; rw [eq_ix2 i]; exact Cert.KernelIdeal.Points.G5_eq m c h _ _
theorem g6 : Cert.KernelIdeal.Value.G6 m c = F6 (kw m c) := by
  funext i; rw [eq_ix2 i]; exact Cert.KernelIdeal.Points.G6_eq m c h _ _
end

/-- From memories agreeing on finite arguments, the kernel and the reference both run and end with the same five results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hs := fun c => small m c hpre
  refine ⟨fun c => F2 (kx m c) (kw m c), fun c => F3 (kx m c), fun c => F4 (kx m c), fun c => F5 (kw m c), fun c => F6 (kw m c), ?_, ?_⟩
  · refine (θ_run _ _ _).mono (fun r h c => ?_) (Cert.KernelIdeal.Value.run m g)
    obtain ⟨e2, e3, e4, e5, e6, ea, eb⟩ := h c
    exact ⟨e2.trans (g2 m c (hs c)), e3.trans (g3 m c (hs c)), e4.trans (g4 m c (hs c)), e5.trans (g5 m c (hs c)), e6.trans (g6 m c (hs c)), ea, eb⟩
  · refine (θ_run _ _ _).mono (fun r h c => ?_) (Cert.ReferenceIdeal.Value.run_blocks m' g')
    obtain ⟨e2, e3, e4, e5, e6, ea, eb⟩ := h c
    have hx := x_same m m' c (hargs c).1
    have hw := w_same m m' c (hargs c).2
    have hs' : Small (Cert.ReferenceIdeal.Out.xArr m' c) (Cert.ReferenceIdeal.Out.wArr m' c) := by rw [hx, hw]; exact hs c
    refine ⟨e2.trans ((final2 m' c hs').trans ?_), e3.trans ((final3 m' c hs').trans ?_), e4.trans ((final4 m' c hs').trans ?_),
      e5.trans ((final5 m' c hs').trans ?_), e6.trans ((final6 m' c hs').trans ?_), ea, eb⟩
    · rw [hx, hw]
    · rw [hx]
    · rw [hx]
    · rw [hw]
    · rw [hw]

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_finite
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, fun m ρ _ => Cert.Reference.Gen.frame m ρ,
  trivial, IdealRules.named_const.statement Cert.ReferenceIdeal.κ "log2e" .f32 0x3FB8AA3B#32 (((Real.log 2)⁻¹ : ℝ) : EReal) rfl,
  Cert.Equation.algebraic⟩

end Cert.Proof

end
